-- ==== Defs.lean ====
def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQIdeal_scales_normal_q [hPre_scales_normal_q : Cert.Pre_scales_normal_q.Facts] (m : (ℓ : Loc Cert.ProjQIdeal.nD Cert.ProjQIdeal.τ Cert.ProjQIdeal.sig) → Buf (Elt Ideal) ℓ) : Prop :=
  ∀ c : Dev Cert.ProjQIdeal.nD,
    (Cert.Pre_scales_normal_q.fn (F := Ideal) (m ((c.tc : Thread Cert.ProjQIdeal.nD Cert.ProjQIdeal.τ).loc Cert.ProjQIdeal.main_arg0)) (m ((c.tc : Thread Cert.ProjQIdeal.nD Cert.ProjQIdeal.τ).loc Cert.ProjQIdeal.main_arg1)) (m ((c.tc : Thread Cert.ProjQIdeal.nD Cert.ProjQIdeal.τ).loc Cert.ProjQIdeal.main_arg2)) (m ((c.tc : Thread Cert.ProjQIdeal.nD Cert.ProjQIdeal.τ).loc Cert.ProjQIdeal.main_arg3)) (m ((c.tc : Thread Cert.ProjQIdeal.nD Cert.ProjQIdeal.τ).loc Cert.ProjQIdeal.main_arg4))) = (fun _ => 1#1)

def Pre_RefQIdeal (m : (ℓ : Loc Cert.RefQIdeal.nD Cert.RefQIdeal.τ Cert.RefQIdeal.sig) → Buf (Elt Ideal) ℓ) : Prop :=
  True

def Pre_RefQIdeal_scales_normal_q [hPre_scales_normal_q : Cert.Pre_scales_normal_q.Facts] (m : (ℓ : Loc Cert.RefQIdeal.nD Cert.RefQIdeal.τ Cert.RefQIdeal.sig) → Buf (Elt Ideal) ℓ) : Prop :=
  ∀ c : Dev Cert.RefQIdeal.nD,
    (Cert.Pre_scales_normal_q.fn (F := Ideal) (m ((c.tc : Thread Cert.RefQIdeal.nD Cert.RefQIdeal.τ).loc Cert.RefQIdeal.main_arg0)) (m ((c.tc : Thread Cert.RefQIdeal.nD Cert.RefQIdeal.τ).loc Cert.RefQIdeal.main_arg1)) (m ((c.tc : Thread Cert.RefQIdeal.nD Cert.RefQIdeal.τ).loc Cert.RefQIdeal.main_arg2)) (m ((c.tc : Thread Cert.RefQIdeal.nD Cert.RefQIdeal.τ).loc Cert.RefQIdeal.main_arg3)) (m ((c.tc : Thread Cert.RefQIdeal.nD Cert.RefQIdeal.τ).loc Cert.RefQIdeal.main_arg4))) = (fun _ => 1#1)

def Pre_ProjV (m : (ℓ : Loc Cert.ProjV.nD Cert.ProjV.τ Cert.ProjV.sig) → Buf (Elt Bits) ℓ) : Prop :=
  True

def Pre_ProjVIdeal (m : (ℓ : Loc Cert.ProjVIdeal.nD Cert.ProjVIdeal.τ Cert.ProjVIdeal.sig) → Buf (Elt Ideal) ℓ) : Prop :=
  True

def Pre_ProjVIdeal_scales_normal_v [hPre_scales_normal_v : Cert.Pre_scales_normal_v.Facts] (m : (ℓ : Loc Cert.ProjVIdeal.nD Cert.ProjVIdeal.τ Cert.ProjVIdeal.sig) → Buf (Elt Ideal) ℓ) : Prop :=
  ∀ c : Dev Cert.ProjVIdeal.nD,
    (Cert.Pre_scales_normal_v.fn (F := Ideal) (m ((c.tc : Thread Cert.ProjVIdeal.nD Cert.ProjVIdeal.τ).loc Cert.ProjVIdeal.main_arg0)) (m ((c.tc : Thread Cert.ProjVIdeal.nD Cert.ProjVIdeal.τ).loc Cert.ProjVIdeal.main_arg1)) (m ((c.tc : Thread Cert.ProjVIdeal.nD Cert.ProjVIdeal.τ).loc Cert.ProjVIdeal.main_arg2)) (m ((c.tc : Thread Cert.ProjVIdeal.nD Cert.ProjVIdeal.τ).loc Cert.ProjVIdeal.main_arg3)) (m ((c.tc : Thread Cert.ProjVIdeal.nD Cert.ProjVIdeal.τ).loc Cert.ProjVIdeal.main_arg4))) = (fun _ => 1#1)

def Pre_RefVIdeal (m : (ℓ : Loc Cert.RefVIdeal.nD Cert.RefVIdeal.τ Cert.RefVIdeal.sig) → Buf (Elt Ideal) ℓ) : Prop :=
  True

def Pre_RefVIdeal_scales_normal_v [hPre_scales_normal_v : Cert.Pre_scales_normal_v.Facts] (m : (ℓ : Loc Cert.RefVIdeal.nD Cert.RefVIdeal.τ Cert.RefVIdeal.sig) → Buf (Elt Ideal) ℓ) : Prop :=
  ∀ c : Dev Cert.RefVIdeal.nD,
    (Cert.Pre_scales_normal_v.fn (F := Ideal) (m ((c.tc : Thread Cert.RefVIdeal.nD Cert.RefVIdeal.τ).loc Cert.RefVIdeal.main_arg0)) (m ((c.tc : Thread Cert.RefVIdeal.nD Cert.RefVIdeal.τ).loc Cert.RefVIdeal.main_arg1)) (m ((c.tc : Thread Cert.RefVIdeal.nD Cert.RefVIdeal.τ).loc Cert.RefVIdeal.main_arg2)) (m ((c.tc : Thread Cert.RefVIdeal.nD Cert.RefVIdeal.τ).loc Cert.RefVIdeal.main_arg3)) (m ((c.tc : Thread Cert.RefVIdeal.nD Cert.RefVIdeal.τ).loc Cert.RefVIdeal.main_arg4))) = (fun _ => 1#1)

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGIdeal_scales_normal_g [hPre_scales_normal_g : Cert.Pre_scales_normal_g.Facts] (m : (ℓ : Loc Cert.ProjGIdeal.nD Cert.ProjGIdeal.τ Cert.ProjGIdeal.sig) → Buf (Elt Ideal) ℓ) : Prop :=
  ∀ c : Dev Cert.ProjGIdeal.nD,
    (Cert.Pre_scales_normal_g.fn (F := Ideal) (m ((c.tc : Thread Cert.ProjGIdeal.nD Cert.ProjGIdeal.τ).loc Cert.ProjGIdeal.main_arg0)) (m ((c.tc : Thread Cert.ProjGIdeal.nD Cert.ProjGIdeal.τ).loc Cert.ProjGIdeal.main_arg1)) (m ((c.tc : Thread Cert.ProjGIdeal.nD Cert.ProjGIdeal.τ).loc Cert.ProjGIdeal.main_arg2))) = (fun _ => 1#1)

def Pre_RefGIdeal (m : (ℓ : Loc Cert.RefGIdeal.nD Cert.RefGIdeal.τ Cert.RefGIdeal.sig) → Buf (Elt Ideal) ℓ) : Prop :=
  True

def Pre_RefGIdeal_scales_normal_g [hPre_scales_normal_g : Cert.Pre_scales_normal_g.Facts] (m : (ℓ : Loc Cert.RefGIdeal.nD Cert.RefGIdeal.τ Cert.RefGIdeal.sig) → Buf (Elt Ideal) ℓ) : Prop :=
  ∀ c : Dev Cert.RefGIdeal.nD,
    (Cert.Pre_scales_normal_g.fn (F := Ideal) (m ((c.tc : Thread Cert.RefGIdeal.nD Cert.RefGIdeal.τ).loc Cert.RefGIdeal.main_arg0)) (m ((c.tc : Thread Cert.RefGIdeal.nD Cert.RefGIdeal.τ).loc Cert.RefGIdeal.main_arg1)) (m ((c.tc : Thread Cert.RefGIdeal.nD Cert.RefGIdeal.τ).loc Cert.RefGIdeal.main_arg2))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_scales_normal_out [hPre_scales_normal_out : Cert.Pre_scales_normal_out.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_scales_normal_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2))) = (fun _ => 1#1)

def Pre_RefOutIdeal (m : (ℓ : Loc Cert.RefOutIdeal.nD Cert.RefOutIdeal.τ Cert.RefOutIdeal.sig) → Buf (Elt Ideal) ℓ) : Prop :=
  True

def Pre_RefOutIdeal_scales_normal_out [hPre_scales_normal_out : Cert.Pre_scales_normal_out.Facts] (m : (ℓ : Loc Cert.RefOutIdeal.nD Cert.RefOutIdeal.τ Cert.RefOutIdeal.sig) → Buf (Elt Ideal) ℓ) : Prop :=
  ∀ c : Dev Cert.RefOutIdeal.nD,
    (Cert.Pre_scales_normal_out.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_scales_normal_gates [hPre_scales_normal_gates : Cert.Pre_scales_normal_gates.Facts] (m : (ℓ : Loc Cert.GatesIdeal.nD Cert.GatesIdeal.τ Cert.GatesIdeal.sig) → Buf (Elt Ideal) ℓ) : Prop :=
  ∀ c : Dev Cert.GatesIdeal.nD,
    (Cert.Pre_scales_normal_gates.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6))) = (fun _ => 1#1)

def Pre_RefGatesIdeal (m : (ℓ : Loc Cert.RefGatesIdeal.nD Cert.RefGatesIdeal.τ Cert.RefGatesIdeal.sig) → Buf (Elt Ideal) ℓ) : Prop :=
  True

def Pre_RefGatesIdeal_scales_normal_gates [hPre_scales_normal_gates : Cert.Pre_scales_normal_gates.Facts] (m : (ℓ : Loc Cert.RefGatesIdeal.nD Cert.RefGatesIdeal.τ Cert.RefGatesIdeal.sig) → Buf (Elt Ideal) ℓ) : Prop :=
  ∀ c : Dev Cert.RefGatesIdeal.nD,
    (Cert.Pre_scales_normal_gates.fn (F := Ideal) (m ((c.tc : Thread Cert.RefGatesIdeal.nD Cert.RefGatesIdeal.τ).loc Cert.RefGatesIdeal.main_arg0)) (m ((c.tc : Thread Cert.RefGatesIdeal.nD Cert.RefGatesIdeal.τ).loc Cert.RefGatesIdeal.main_arg1)) (m ((c.tc : Thread Cert.RefGatesIdeal.nD Cert.RefGatesIdeal.τ).loc Cert.RefGatesIdeal.main_arg2)) (m ((c.tc : Thread Cert.RefGatesIdeal.nD Cert.RefGatesIdeal.τ).loc Cert.RefGatesIdeal.main_arg3)) (m ((c.tc : Thread Cert.RefGatesIdeal.nD Cert.RefGatesIdeal.τ).loc Cert.RefGatesIdeal.main_arg4)) (m ((c.tc : Thread Cert.RefGatesIdeal.nD Cert.RefGatesIdeal.τ).loc Cert.RefGatesIdeal.main_arg5)) (m ((c.tc : Thread Cert.RefGatesIdeal.nD Cert.RefGatesIdeal.τ).loc Cert.RefGatesIdeal.main_arg6))) = (fun _ => 1#1)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1)
      ∧ r.2.mem ((c.tc : Thread Cert.ProjQ.nD Cert.ProjQ.τ).loc Cert.ProjQ.main_arg2) = m ((c.tc : Thread Cert.ProjQ.nD Cert.ProjQ.τ).loc Cert.ProjQ.main_arg2)
      ∧ r.2.mem ((c.tc : Thread Cert.ProjQ.nD Cert.ProjQ.τ).loc Cert.ProjQ.main_arg3) = m ((c.tc : Thread Cert.ProjQ.nD Cert.ProjQ.τ).loc Cert.ProjQ.main_arg3)
      ∧ r.2.mem ((c.tc : Thread Cert.ProjQ.nD Cert.ProjQ.τ).loc Cert.ProjQ.main_arg4) = m ((c.tc : Thread Cert.ProjQ.nD Cert.ProjQ.τ).loc Cert.ProjQ.main_arg4))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
      ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
      ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3)
      ∧ r.2.mem ((c.tc : Thread Cert.ProjQIdeal.nD Cert.ProjQIdeal.τ).loc Cert.ProjQIdeal.main_arg4) = m ((c.tc : Thread Cert.ProjQIdeal.nD Cert.ProjQIdeal.τ).loc Cert.ProjQIdeal.main_arg4))
      ∧ r.2.sem = fun _ => 0)

def quiescent_ProjQIdeal_pre_scales_normal_q [hProjQIdeal : Cert.ProjQIdeal.Facts] [hPre_scales_normal_q : Cert.Pre_scales_normal_q.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal_scales_normal_q m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
      ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
      ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3)
      ∧ r.2.mem ((c.tc : Thread Cert.ProjQIdeal.nD Cert.ProjQIdeal.τ).loc Cert.ProjQIdeal.main_arg4) = m ((c.tc : Thread Cert.ProjQIdeal.nD Cert.ProjQIdeal.τ).loc Cert.ProjQIdeal.main_arg4))
      ∧ r.2.sem = fun _ => 0)

def quiescent_RefQIdeal [hRefQIdeal : Cert.RefQIdeal.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2)
      ∧ r.2.mem ((c.tc : Thread Cert.RefQIdeal.nD Cert.RefQIdeal.τ).loc Cert.RefQIdeal.main_arg3) = m ((c.tc : Thread Cert.RefQIdeal.nD Cert.RefQIdeal.τ).loc Cert.RefQIdeal.main_arg3)
      ∧ r.2.mem ((c.tc : Thread Cert.RefQIdeal.nD Cert.RefQIdeal.τ).loc Cert.RefQIdeal.main_arg4) = m ((c.tc : Thread Cert.RefQIdeal.nD Cert.RefQIdeal.τ).loc Cert.RefQIdeal.main_arg4))
      ∧ r.2.sem = fun _ => 0)

def quiescent_RefQIdeal_pre_scales_normal_q [hRefQIdeal : Cert.RefQIdeal.Facts] [hPre_scales_normal_q : Cert.Pre_scales_normal_q.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal_scales_normal_q m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2)
      ∧ r.2.mem ((c.tc : Thread Cert.RefQIdeal.nD Cert.RefQIdeal.τ).loc Cert.RefQIdeal.main_arg3) = m ((c.tc : Thread Cert.RefQIdeal.nD Cert.RefQIdeal.τ).loc Cert.RefQIdeal.main_arg3)
      ∧ r.2.mem ((c.tc : Thread Cert.RefQIdeal.nD Cert.RefQIdeal.τ).loc Cert.RefQIdeal.main_arg4) = m ((c.tc : Thread Cert.RefQIdeal.nD Cert.RefQIdeal.τ).loc Cert.RefQIdeal.main_arg4))
      ∧ r.2.sem = fun _ => 0)

def quiescent_ProjV [hProjV : Cert.ProjV.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1)
      ∧ r.2.mem ((c.tc : Thread Cert.ProjV.nD Cert.ProjV.τ).loc Cert.ProjV.main_arg2) = m ((c.tc : Thread Cert.ProjV.nD Cert.ProjV.τ).loc Cert.ProjV.main_arg2)
      ∧ r.2.mem ((c.tc : Thread Cert.ProjV.nD Cert.ProjV.τ).loc Cert.ProjV.main_arg3) = m ((c.tc : Thread Cert.ProjV.nD Cert.ProjV.τ).loc Cert.ProjV.main_arg3)
      ∧ r.2.mem ((c.tc : Thread Cert.ProjV.nD Cert.ProjV.τ).loc Cert.ProjV.main_arg4) = m ((c.tc : Thread Cert.ProjV.nD Cert.ProjV.τ).loc Cert.ProjV.main_arg4))
      ∧ r.2.sem = fun _ => 0)

def quiescent_ProjVIdeal [hProjVIdeal : Cert.ProjVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1)
      ∧ r.2.mem ((c.tc : Thread Cert.ProjVIdeal.nD Cert.ProjVIdeal.τ).loc Cert.ProjVIdeal.main_arg2) = m ((c.tc : Thread Cert.ProjVIdeal.nD Cert.ProjVIdeal.τ).loc Cert.ProjVIdeal.main_arg2)
      ∧ r.2.mem ((c.tc : Thread Cert.ProjVIdeal.nD Cert.ProjVIdeal.τ).loc Cert.ProjVIdeal.main_arg3) = m ((c.tc : Thread Cert.ProjVIdeal.nD Cert.ProjVIdeal.τ).loc Cert.ProjVIdeal.main_arg3)
      ∧ r.2.mem ((c.tc : Thread Cert.ProjVIdeal.nD Cert.ProjVIdeal.τ).loc Cert.ProjVIdeal.main_arg4) = m ((c.tc : Thread Cert.ProjVIdeal.nD Cert.ProjVIdeal.τ).loc Cert.ProjVIdeal.main_arg4))
      ∧ r.2.sem = fun _ => 0)

def quiescent_ProjVIdeal_pre_scales_normal_v [hProjVIdeal : Cert.ProjVIdeal.Facts] [hPre_scales_normal_v : Cert.Pre_scales_normal_v.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal_scales_normal_v m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1)
      ∧ r.2.mem ((c.tc : Thread Cert.ProjVIdeal.nD Cert.ProjVIdeal.τ).loc Cert.ProjVIdeal.main_arg2) = m ((c.tc : Thread Cert.ProjVIdeal.nD Cert.ProjVIdeal.τ).loc Cert.ProjVIdeal.main_arg2)
      ∧ r.2.mem ((c.tc : Thread Cert.ProjVIdeal.nD Cert.ProjVIdeal.τ).loc Cert.ProjVIdeal.main_arg3) = m ((c.tc : Thread Cert.ProjVIdeal.nD Cert.ProjVIdeal.τ).loc Cert.ProjVIdeal.main_arg3)
      ∧ r.2.mem ((c.tc : Thread Cert.ProjVIdeal.nD Cert.ProjVIdeal.τ).loc Cert.ProjVIdeal.main_arg4) = m ((c.tc : Thread Cert.ProjVIdeal.nD Cert.ProjVIdeal.τ).loc Cert.ProjVIdeal.main_arg4))
      ∧ r.2.sem = fun _ => 0)

def quiescent_RefVIdeal [hRefVIdeal : Cert.RefVIdeal.Facts] : Prop :=
  ∀ (m : (ℓ : Loc Cert.RefVIdeal.nD Cert.RefVIdeal.τ Cert.RefVIdeal.sig) → Buf (Elt Ideal) ℓ) (g : Dev Cert.RefVIdeal.nD → PrngReg), Pre_RefVIdeal m →
    θ_run (Cert.RefVIdeal.defs (F := Ideal)) (onTc (τ := Cert.RefVIdeal.τ) (Cert.RefVIdeal.main (F := Ideal))) ⟨m, fun _ => 0, g⟩ (fun r => (∀ c : Dev Cert.RefVIdeal.nD,
      r.2.mem ((c.tc : Thread Cert.RefVIdeal.nD Cert.RefVIdeal.τ).loc Cert.RefVIdeal.main_arg0) = m ((c.tc : Thread Cert.RefVIdeal.nD Cert.RefVIdeal.τ).loc Cert.RefVIdeal.main_arg0)
      ∧ r.2.mem ((c.tc : Thread Cert.RefVIdeal.nD Cert.RefVIdeal.τ).loc Cert.RefVIdeal.main_arg1) = m ((c.tc : Thread Cert.RefVIdeal.nD Cert.RefVIdeal.τ).loc Cert.RefVIdeal.main_arg1)
      ∧ r.2.mem ((c.tc : Thread Cert.RefVIdeal.nD Cert.RefVIdeal.τ).loc Cert.RefVIdeal.main_arg2) = m ((c.tc : Thread Cert.RefVIdeal.nD Cert.RefVIdeal.τ).loc Cert.RefVIdeal.main_arg2)
      ∧ r.2.mem ((c.tc : Thread Cert.RefVIdeal.nD Cert.RefVIdeal.τ).loc Cert.RefVIdeal.main_arg3) = m ((c.tc : Thread Cert.RefVIdeal.nD Cert.RefVIdeal.τ).loc Cert.RefVIdeal.main_arg3)
      ∧ r.2.mem ((c.tc : Thread Cert.RefVIdeal.nD Cert.RefVIdeal.τ).loc Cert.RefVIdeal.main_arg4) = m ((c.tc : Thread Cert.RefVIdeal.nD Cert.RefVIdeal.τ).loc Cert.RefVIdeal.main_arg4))
      ∧ r.2.sem = fun _ => 0)

def quiescent_RefVIdeal_pre_scales_normal_v [hRefVIdeal : Cert.RefVIdeal.Facts] [hPre_scales_normal_v : Cert.Pre_scales_normal_v.Facts] : Prop :=
  ∀ (m : (ℓ : Loc Cert.RefVIdeal.nD Cert.RefVIdeal.τ Cert.RefVIdeal.sig) → Buf (Elt Ideal) ℓ) (g : Dev Cert.RefVIdeal.nD → PrngReg), Pre_RefVIdeal_scales_normal_v m →
    θ_run (Cert.RefVIdeal.defs (F := Ideal)) (onTc (τ := Cert.RefVIdeal.τ) (Cert.RefVIdeal.main (F := Ideal))) ⟨m, fun _ => 0, g⟩ (fun r => (∀ c : Dev Cert.RefVIdeal.nD,
      r.2.mem ((c.tc : Thread Cert.RefVIdeal.nD Cert.RefVIdeal.τ).loc Cert.RefVIdeal.main_arg0) = m ((c.tc : Thread Cert.RefVIdeal.nD Cert.RefVIdeal.τ).loc Cert.RefVIdeal.main_arg0)
      ∧ r.2.mem ((c.tc : Thread Cert.RefVIdeal.nD Cert.RefVIdeal.τ).loc Cert.RefVIdeal.main_arg1) = m ((c.tc : Thread Cert.RefVIdeal.nD Cert.RefVIdeal.τ).loc Cert.RefVIdeal.main_arg1)
      ∧ r.2.mem ((c.tc : Thread Cert.RefVIdeal.nD Cert.RefVIdeal.τ).loc Cert.RefVIdeal.main_arg2) = m ((c.tc : Thread Cert.RefVIdeal.nD Cert.RefVIdeal.τ).loc Cert.RefVIdeal.main_arg2)
      ∧ r.2.mem ((c.tc : Thread Cert.RefVIdeal.nD Cert.RefVIdeal.τ).loc Cert.RefVIdeal.main_arg3) = m ((c.tc : Thread Cert.RefVIdeal.nD Cert.RefVIdeal.τ).loc Cert.RefVIdeal.main_arg3)
      ∧ r.2.mem ((c.tc : Thread Cert.RefVIdeal.nD Cert.RefVIdeal.τ).loc Cert.RefVIdeal.main_arg4) = m ((c.tc : Thread Cert.RefVIdeal.nD Cert.RefVIdeal.τ).loc Cert.RefVIdeal.main_arg4))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1)
      ∧ r.2.mem ((c.tc : Thread Cert.ProjG.nD Cert.ProjG.τ).loc Cert.ProjG.main_arg2) = m ((c.tc : Thread Cert.ProjG.nD Cert.ProjG.τ).loc Cert.ProjG.main_arg2))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1)
      ∧ r.2.mem ((c.tc : Thread Cert.ProjGIdeal.nD Cert.ProjGIdeal.τ).loc Cert.ProjGIdeal.main_arg2) = m ((c.tc : Thread Cert.ProjGIdeal.nD Cert.ProjGIdeal.τ).loc Cert.ProjGIdeal.main_arg2))
      ∧ r.2.sem = fun _ => 0)

def quiescent_ProjGIdeal_pre_scales_normal_g [hProjGIdeal : Cert.ProjGIdeal.Facts] [hPre_scales_normal_g : Cert.Pre_scales_normal_g.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal_scales_normal_g m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1)
      ∧ r.2.mem ((c.tc : Thread Cert.ProjGIdeal.nD Cert.ProjGIdeal.τ).loc Cert.ProjGIdeal.main_arg2) = m ((c.tc : Thread Cert.ProjGIdeal.nD Cert.ProjGIdeal.τ).loc Cert.ProjGIdeal.main_arg2))
      ∧ r.2.sem = fun _ => 0)

def quiescent_RefGIdeal [hRefGIdeal : Cert.RefGIdeal.Facts] : Prop :=
  ∀ (m : (ℓ : Loc Cert.RefGIdeal.nD Cert.RefGIdeal.τ Cert.RefGIdeal.sig) → Buf (Elt Ideal) ℓ) (g : Dev Cert.RefGIdeal.nD → PrngReg), Pre_RefGIdeal m →
    θ_run (Cert.RefGIdeal.defs (F := Ideal)) (onTc (τ := Cert.RefGIdeal.τ) (Cert.RefGIdeal.main (F := Ideal))) ⟨m, fun _ => 0, g⟩ (fun r => (∀ c : Dev Cert.RefGIdeal.nD,
      r.2.mem ((c.tc : Thread Cert.RefGIdeal.nD Cert.RefGIdeal.τ).loc Cert.RefGIdeal.main_arg0) = m ((c.tc : Thread Cert.RefGIdeal.nD Cert.RefGIdeal.τ).loc Cert.RefGIdeal.main_arg0)
      ∧ r.2.mem ((c.tc : Thread Cert.RefGIdeal.nD Cert.RefGIdeal.τ).loc Cert.RefGIdeal.main_arg1) = m ((c.tc : Thread Cert.RefGIdeal.nD Cert.RefGIdeal.τ).loc Cert.RefGIdeal.main_arg1)
      ∧ r.2.mem ((c.tc : Thread Cert.RefGIdeal.nD Cert.RefGIdeal.τ).loc Cert.RefGIdeal.main_arg2) = m ((c.tc : Thread Cert.RefGIdeal.nD Cert.RefGIdeal.τ).loc Cert.RefGIdeal.main_arg2))
      ∧ r.2.sem = fun _ => 0)

def quiescent_RefGIdeal_pre_scales_normal_g [hRefGIdeal : Cert.RefGIdeal.Facts] [hPre_scales_normal_g : Cert.Pre_scales_normal_g.Facts] : Prop :=
  ∀ (m : (ℓ : Loc Cert.RefGIdeal.nD Cert.RefGIdeal.τ Cert.RefGIdeal.sig) → Buf (Elt Ideal) ℓ) (g : Dev Cert.RefGIdeal.nD → PrngReg), Pre_RefGIdeal_scales_normal_g m →
    θ_run (Cert.RefGIdeal.defs (F := Ideal)) (onTc (τ := Cert.RefGIdeal.τ) (Cert.RefGIdeal.main (F := Ideal))) ⟨m, fun _ => 0, g⟩ (fun r => (∀ c : Dev Cert.RefGIdeal.nD,
      r.2.mem ((c.tc : Thread Cert.RefGIdeal.nD Cert.RefGIdeal.τ).loc Cert.RefGIdeal.main_arg0) = m ((c.tc : Thread Cert.RefGIdeal.nD Cert.RefGIdeal.τ).loc Cert.RefGIdeal.main_arg0)
      ∧ r.2.mem ((c.tc : Thread Cert.RefGIdeal.nD Cert.RefGIdeal.τ).loc Cert.RefGIdeal.main_arg1) = m ((c.tc : Thread Cert.RefGIdeal.nD Cert.RefGIdeal.τ).loc Cert.RefGIdeal.main_arg1)
      ∧ r.2.mem ((c.tc : Thread Cert.RefGIdeal.nD Cert.RefGIdeal.τ).loc Cert.RefGIdeal.main_arg2) = m ((c.tc : Thread Cert.RefGIdeal.nD Cert.RefGIdeal.τ).loc Cert.RefGIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjIdeal_pre_scales_normal_out [hOutProjIdeal : Cert.OutProjIdeal.Facts] [hPre_scales_normal_out : Cert.Pre_scales_normal_out.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_scales_normal_out m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2))
      ∧ r.2.sem = fun _ => 0)

def quiescent_RefOutIdeal_pre_scales_normal_out [hRefOutIdeal : Cert.RefOutIdeal.Facts] [hPre_scales_normal_out : Cert.Pre_scales_normal_out.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal_scales_normal_out m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ r.2.sem = fun _ => 0)

def quiescent_GatesIdeal_pre_scales_normal_gates [hGatesIdeal : Cert.GatesIdeal.Facts] [hPre_scales_normal_gates : Cert.Pre_scales_normal_gates.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_scales_normal_gates m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ r.2.sem = fun _ => 0)

def quiescent_RefGatesIdeal [hRefGatesIdeal : Cert.RefGatesIdeal.Facts] : Prop :=
  ∀ (m : (ℓ : Loc Cert.RefGatesIdeal.nD Cert.RefGatesIdeal.τ Cert.RefGatesIdeal.sig) → Buf (Elt Ideal) ℓ) (g : Dev Cert.RefGatesIdeal.nD → PrngReg), Pre_RefGatesIdeal m →
    θ_run (Cert.RefGatesIdeal.defs (F := Ideal)) (onTc (τ := Cert.RefGatesIdeal.τ) (Cert.RefGatesIdeal.main (F := Ideal))) ⟨m, fun _ => 0, g⟩ (fun r => (∀ c : Dev Cert.RefGatesIdeal.nD,
      r.2.mem ((c.tc : Thread Cert.RefGatesIdeal.nD Cert.RefGatesIdeal.τ).loc Cert.RefGatesIdeal.main_arg0) = m ((c.tc : Thread Cert.RefGatesIdeal.nD Cert.RefGatesIdeal.τ).loc Cert.RefGatesIdeal.main_arg0)
      ∧ r.2.mem ((c.tc : Thread Cert.RefGatesIdeal.nD Cert.RefGatesIdeal.τ).loc Cert.RefGatesIdeal.main_arg1) = m ((c.tc : Thread Cert.RefGatesIdeal.nD Cert.RefGatesIdeal.τ).loc Cert.RefGatesIdeal.main_arg1)
      ∧ r.2.mem ((c.tc : Thread Cert.RefGatesIdeal.nD Cert.RefGatesIdeal.τ).loc Cert.RefGatesIdeal.main_arg2) = m ((c.tc : Thread Cert.RefGatesIdeal.nD Cert.RefGatesIdeal.τ).loc Cert.RefGatesIdeal.main_arg2)
      ∧ r.2.mem ((c.tc : Thread Cert.RefGatesIdeal.nD Cert.RefGatesIdeal.τ).loc Cert.RefGatesIdeal.main_arg3) = m ((c.tc : Thread Cert.RefGatesIdeal.nD Cert.RefGatesIdeal.τ).loc Cert.RefGatesIdeal.main_arg3)
      ∧ r.2.mem ((c.tc : Thread Cert.RefGatesIdeal.nD Cert.RefGatesIdeal.τ).loc Cert.RefGatesIdeal.main_arg4) = m ((c.tc : Thread Cert.RefGatesIdeal.nD Cert.RefGatesIdeal.τ).loc Cert.RefGatesIdeal.main_arg4)
      ∧ r.2.mem ((c.tc : Thread Cert.RefGatesIdeal.nD Cert.RefGatesIdeal.τ).loc Cert.RefGatesIdeal.main_arg5) = m ((c.tc : Thread Cert.RefGatesIdeal.nD Cert.RefGatesIdeal.τ).loc Cert.RefGatesIdeal.main_arg5)
      ∧ r.2.mem ((c.tc : Thread Cert.RefGatesIdeal.nD Cert.RefGatesIdeal.τ).loc Cert.RefGatesIdeal.main_arg6) = m ((c.tc : Thread Cert.RefGatesIdeal.nD Cert.RefGatesIdeal.τ).loc Cert.RefGatesIdeal.main_arg6))
      ∧ r.2.sem = fun _ => 0)

def quiescent_RefGatesIdeal_pre_scales_normal_gates [hRefGatesIdeal : Cert.RefGatesIdeal.Facts] [hPre_scales_normal_gates : Cert.Pre_scales_normal_gates.Facts] : Prop :=
  ∀ (m : (ℓ : Loc Cert.RefGatesIdeal.nD Cert.RefGatesIdeal.τ Cert.RefGatesIdeal.sig) → Buf (Elt Ideal) ℓ) (g : Dev Cert.RefGatesIdeal.nD → PrngReg), Pre_RefGatesIdeal_scales_normal_gates m →
    θ_run (Cert.RefGatesIdeal.defs (F := Ideal)) (onTc (τ := Cert.RefGatesIdeal.τ) (Cert.RefGatesIdeal.main (F := Ideal))) ⟨m, fun _ => 0, g⟩ (fun r => (∀ c : Dev Cert.RefGatesIdeal.nD,
      r.2.mem ((c.tc : Thread Cert.RefGatesIdeal.nD Cert.RefGatesIdeal.τ).loc Cert.RefGatesIdeal.main_arg0) = m ((c.tc : Thread Cert.RefGatesIdeal.nD Cert.RefGatesIdeal.τ).loc Cert.RefGatesIdeal.main_arg0)
      ∧ r.2.mem ((c.tc : Thread Cert.RefGatesIdeal.nD Cert.RefGatesIdeal.τ).loc Cert.RefGatesIdeal.main_arg1) = m ((c.tc : Thread Cert.RefGatesIdeal.nD Cert.RefGatesIdeal.τ).loc Cert.RefGatesIdeal.main_arg1)
      ∧ r.2.mem ((c.tc : Thread Cert.RefGatesIdeal.nD Cert.RefGatesIdeal.τ).loc Cert.RefGatesIdeal.main_arg2) = m ((c.tc : Thread Cert.RefGatesIdeal.nD Cert.RefGatesIdeal.τ).loc Cert.RefGatesIdeal.main_arg2)
      ∧ r.2.mem ((c.tc : Thread Cert.RefGatesIdeal.nD Cert.RefGatesIdeal.τ).loc Cert.RefGatesIdeal.main_arg3) = m ((c.tc : Thread Cert.RefGatesIdeal.nD Cert.RefGatesIdeal.τ).loc Cert.RefGatesIdeal.main_arg3)
      ∧ r.2.mem ((c.tc : Thread Cert.RefGatesIdeal.nD Cert.RefGatesIdeal.τ).loc Cert.RefGatesIdeal.main_arg4) = m ((c.tc : Thread Cert.RefGatesIdeal.nD Cert.RefGatesIdeal.τ).loc Cert.RefGatesIdeal.main_arg4)
      ∧ r.2.mem ((c.tc : Thread Cert.RefGatesIdeal.nD Cert.RefGatesIdeal.τ).loc Cert.RefGatesIdeal.main_arg5) = m ((c.tc : Thread Cert.RefGatesIdeal.nD Cert.RefGatesIdeal.τ).loc Cert.RefGatesIdeal.main_arg5)
      ∧ r.2.mem ((c.tc : Thread Cert.RefGatesIdeal.nD Cert.RefGatesIdeal.τ).loc Cert.RefGatesIdeal.main_arg6) = m ((c.tc : Thread Cert.RefGatesIdeal.nD Cert.RefGatesIdeal.τ).loc Cert.RefGatesIdeal.main_arg6))
      ∧ r.2.sem = fun _ => 0)

def preserves_ProjQ_ProjQIdeal : Prop :=
  True

def algebraic_ProjQIdeal_RefQIdeal_pre_scales_normal_q [hProjQIdeal : Cert.ProjQIdeal.Facts] [hRefQIdeal : Cert.RefQIdeal.Facts] [hPre_scales_normal_q : Cert.Pre_scales_normal_q.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.RefQIdeal.nD Cert.RefQIdeal.τ Cert.RefQIdeal.sig) → Buf (Elt Ideal) ℓ) (g' : Dev Cert.RefQIdeal.nD → PrngReg), Pre_ProjQIdeal_scales_normal_q m →
    (∀ c : Dev Cert.ProjQIdeal.nD,
      m' ((c.tc : Thread Cert.RefQIdeal.nD Cert.RefQIdeal.τ).loc Cert.RefQIdeal.main_arg0) = m ((c.tc : Thread Cert.ProjQIdeal.nD Cert.ProjQIdeal.τ).loc Cert.ProjQIdeal.main_arg0)
      ∧ m' ((c.tc : Thread Cert.RefQIdeal.nD Cert.RefQIdeal.τ).loc Cert.RefQIdeal.main_arg1) = m ((c.tc : Thread Cert.ProjQIdeal.nD Cert.ProjQIdeal.τ).loc Cert.ProjQIdeal.main_arg1)
      ∧ m' ((c.tc : Thread Cert.RefQIdeal.nD Cert.RefQIdeal.τ).loc Cert.RefQIdeal.main_arg2) = m ((c.tc : Thread Cert.ProjQIdeal.nD Cert.ProjQIdeal.τ).loc Cert.ProjQIdeal.main_arg2)
      ∧ m' ((c.tc : Thread Cert.RefQIdeal.nD Cert.RefQIdeal.τ).loc Cert.RefQIdeal.main_arg3) = m ((c.tc : Thread Cert.ProjQIdeal.nD Cert.ProjQIdeal.τ).loc Cert.ProjQIdeal.main_arg3)
      ∧ m' ((c.tc : Thread Cert.RefQIdeal.nD Cert.RefQIdeal.τ).loc Cert.RefQIdeal.main_arg4) = m ((c.tc : Thread Cert.ProjQIdeal.nD Cert.ProjQIdeal.τ).loc Cert.ProjQIdeal.main_arg4)) →
    ∃ (v0 : (c : Dev Cert.ProjQIdeal.nD) → Buf (Elt Ideal) ((c.tc : Thread Cert.ProjQIdeal.nD Cert.ProjQIdeal.τ).loc Cert.ProjQIdeal.main_v2_0)) (v1 : (c : Dev Cert.ProjQIdeal.nD) → Buf (Elt Ideal) ((c.tc : Thread Cert.ProjQIdeal.nD Cert.ProjQIdeal.τ).loc Cert.ProjQIdeal.main_v2_1)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v2_0) = v0 c
          ∧ r.2.mem ((c.tc : Thread Cert.ProjQIdeal.nD Cert.ProjQIdeal.τ).loc Cert.ProjQIdeal.main_v2_1) = v1 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
          ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
          ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3)
          ∧ r.2.mem ((c.tc : Thread Cert.ProjQIdeal.nD Cert.ProjQIdeal.τ).loc Cert.ProjQIdeal.main_arg4) = m ((c.tc : Thread Cert.ProjQIdeal.nD Cert.ProjQIdeal.τ).loc Cert.ProjQIdeal.main_arg4))
      ∧ θ_run (Cert.RefQIdeal.defs (F := Ideal)) (onTc (τ := Cert.RefQIdeal.τ) (Cert.RefQIdeal.main (F := Ideal))) ⟨m', fun _ => 0, g'⟩ (fun r => ∀ c : Dev Cert.RefQIdeal.nD,
          r.2.mem ((c.tc : Thread Cert.RefQIdeal.nD Cert.RefQIdeal.τ).loc Cert.RefQIdeal.main_v0_0) = v0 c
          ∧ r.2.mem ((c.tc : Thread Cert.RefQIdeal.nD Cert.RefQIdeal.τ).loc Cert.RefQIdeal.main_v0_1) = v1 c
          ∧ r.2.mem ((c.tc : Thread Cert.RefQIdeal.nD Cert.RefQIdeal.τ).loc Cert.RefQIdeal.main_arg0) = m' ((c.tc : Thread Cert.RefQIdeal.nD Cert.RefQIdeal.τ).loc Cert.RefQIdeal.main_arg0)
          ∧ r.2.mem ((c.tc : Thread Cert.RefQIdeal.nD Cert.RefQIdeal.τ).loc Cert.RefQIdeal.main_arg1) = m' ((c.tc : Thread Cert.RefQIdeal.nD Cert.RefQIdeal.τ).loc Cert.RefQIdeal.main_arg1)
          ∧ r.2.mem ((c.tc : Thread Cert.RefQIdeal.nD Cert.RefQIdeal.τ).loc Cert.RefQIdeal.main_arg2) = m' ((c.tc : Thread Cert.RefQIdeal.nD Cert.RefQIdeal.τ).loc Cert.RefQIdeal.main_arg2)
          ∧ r.2.mem ((c.tc : Thread Cert.RefQIdeal.nD Cert.RefQIdeal.τ).loc Cert.RefQIdeal.main_arg3) = m' ((c.tc : Thread Cert.RefQIdeal.nD Cert.RefQIdeal.τ).loc Cert.RefQIdeal.main_arg3)
          ∧ r.2.mem ((c.tc : Thread Cert.RefQIdeal.nD Cert.RefQIdeal.τ).loc Cert.RefQIdeal.main_arg4) = m' ((c.tc : Thread Cert.RefQIdeal.nD Cert.RefQIdeal.τ).loc Cert.RefQIdeal.main_arg4))

def preserves_ProjV_ProjVIdeal : Prop :=
  True

def algebraic_ProjVIdeal_RefVIdeal_pre_scales_normal_v [hProjVIdeal : Cert.ProjVIdeal.Facts] [hRefVIdeal : Cert.RefVIdeal.Facts] [hPre_scales_normal_v : Cert.Pre_scales_normal_v.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.RefVIdeal.nD Cert.RefVIdeal.τ Cert.RefVIdeal.sig) → Buf (Elt Ideal) ℓ) (g' : Dev Cert.RefVIdeal.nD → PrngReg), Pre_ProjVIdeal_scales_normal_v m →
    (∀ c : Dev Cert.ProjVIdeal.nD,
      m' ((c.tc : Thread Cert.RefVIdeal.nD Cert.RefVIdeal.τ).loc Cert.RefVIdeal.main_arg0) = m ((c.tc : Thread Cert.ProjVIdeal.nD Cert.ProjVIdeal.τ).loc Cert.ProjVIdeal.main_arg0)
      ∧ m' ((c.tc : Thread Cert.RefVIdeal.nD Cert.RefVIdeal.τ).loc Cert.RefVIdeal.main_arg1) = m ((c.tc : Thread Cert.ProjVIdeal.nD Cert.ProjVIdeal.τ).loc Cert.ProjVIdeal.main_arg1)
      ∧ m' ((c.tc : Thread Cert.RefVIdeal.nD Cert.RefVIdeal.τ).loc Cert.RefVIdeal.main_arg2) = m ((c.tc : Thread Cert.ProjVIdeal.nD Cert.ProjVIdeal.τ).loc Cert.ProjVIdeal.main_arg2)
      ∧ m' ((c.tc : Thread Cert.RefVIdeal.nD Cert.RefVIdeal.τ).loc Cert.RefVIdeal.main_arg3) = m ((c.tc : Thread Cert.ProjVIdeal.nD Cert.ProjVIdeal.τ).loc Cert.ProjVIdeal.main_arg3)
      ∧ m' ((c.tc : Thread Cert.RefVIdeal.nD Cert.RefVIdeal.τ).loc Cert.RefVIdeal.main_arg4) = m ((c.tc : Thread Cert.ProjVIdeal.nD Cert.ProjVIdeal.τ).loc Cert.ProjVIdeal.main_arg4)) →
    ∃ (v0 : (c : Dev Cert.ProjVIdeal.nD) → Buf (Elt Ideal) ((c.tc : Thread Cert.ProjVIdeal.nD Cert.ProjVIdeal.τ).loc Cert.ProjVIdeal.main_v2_0)) (v1 : (c : Dev Cert.ProjVIdeal.nD) → Buf (Elt Ideal) ((c.tc : Thread Cert.ProjVIdeal.nD Cert.ProjVIdeal.τ).loc Cert.ProjVIdeal.main_v2_1)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v2_0) = v0 c
          ∧ r.2.mem ((c.tc : Thread Cert.ProjVIdeal.nD Cert.ProjVIdeal.τ).loc Cert.ProjVIdeal.main_v2_1) = v1 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1)
          ∧ r.2.mem ((c.tc : Thread Cert.ProjVIdeal.nD Cert.ProjVIdeal.τ).loc Cert.ProjVIdeal.main_arg2) = m ((c.tc : Thread Cert.ProjVIdeal.nD Cert.ProjVIdeal.τ).loc Cert.ProjVIdeal.main_arg2)
          ∧ r.2.mem ((c.tc : Thread Cert.ProjVIdeal.nD Cert.ProjVIdeal.τ).loc Cert.ProjVIdeal.main_arg3) = m ((c.tc : Thread Cert.ProjVIdeal.nD Cert.ProjVIdeal.τ).loc Cert.ProjVIdeal.main_arg3)
          ∧ r.2.mem ((c.tc : Thread Cert.ProjVIdeal.nD Cert.ProjVIdeal.τ).loc Cert.ProjVIdeal.main_arg4) = m ((c.tc : Thread Cert.ProjVIdeal.nD Cert.ProjVIdeal.τ).loc Cert.ProjVIdeal.main_arg4))
      ∧ θ_run (Cert.RefVIdeal.defs (F := Ideal)) (onTc (τ := Cert.RefVIdeal.τ) (Cert.RefVIdeal.main (F := Ideal))) ⟨m', fun _ => 0, g'⟩ (fun r => ∀ c : Dev Cert.RefVIdeal.nD,
          r.2.mem ((c.tc : Thread Cert.RefVIdeal.nD Cert.RefVIdeal.τ).loc Cert.RefVIdeal.main_v0_0) = v0 c
          ∧ r.2.mem ((c.tc : Thread Cert.RefVIdeal.nD Cert.RefVIdeal.τ).loc Cert.RefVIdeal.main_v0_1) = v1 c
          ∧ r.2.mem ((c.tc : Thread Cert.RefVIdeal.nD Cert.RefVIdeal.τ).loc Cert.RefVIdeal.main_arg0) = m' ((c.tc : Thread Cert.RefVIdeal.nD Cert.RefVIdeal.τ).loc Cert.RefVIdeal.main_arg0)
          ∧ r.2.mem ((c.tc : Thread Cert.RefVIdeal.nD Cert.RefVIdeal.τ).loc Cert.RefVIdeal.main_arg1) = m' ((c.tc : Thread Cert.RefVIdeal.nD Cert.RefVIdeal.τ).loc Cert.RefVIdeal.main_arg1)
          ∧ r.2.mem ((c.tc : Thread Cert.RefVIdeal.nD Cert.RefVIdeal.τ).loc Cert.RefVIdeal.main_arg2) = m' ((c.tc : Thread Cert.RefVIdeal.nD Cert.RefVIdeal.τ).loc Cert.RefVIdeal.main_arg2)
          ∧ r.2.mem ((c.tc : Thread Cert.RefVIdeal.nD Cert.RefVIdeal.τ).loc Cert.RefVIdeal.main_arg3) = m' ((c.tc : Thread Cert.RefVIdeal.nD Cert.RefVIdeal.τ).loc Cert.RefVIdeal.main_arg3)
          ∧ r.2.mem ((c.tc : Thread Cert.RefVIdeal.nD Cert.RefVIdeal.τ).loc Cert.RefVIdeal.main_arg4) = m' ((c.tc : Thread Cert.RefVIdeal.nD Cert.RefVIdeal.τ).loc Cert.RefVIdeal.main_arg4))

def preserves_ProjG_ProjGIdeal : Prop :=
  True

def algebraic_ProjGIdeal_RefGIdeal_pre_scales_normal_g [hProjGIdeal : Cert.ProjGIdeal.Facts] [hRefGIdeal : Cert.RefGIdeal.Facts] [hPre_scales_normal_g : Cert.Pre_scales_normal_g.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.RefGIdeal.nD Cert.RefGIdeal.τ Cert.RefGIdeal.sig) → Buf (Elt Ideal) ℓ) (g' : Dev Cert.RefGIdeal.nD → PrngReg), Pre_ProjGIdeal_scales_normal_g m →
    (∀ c : Dev Cert.ProjGIdeal.nD,
      m' ((c.tc : Thread Cert.RefGIdeal.nD Cert.RefGIdeal.τ).loc Cert.RefGIdeal.main_arg0) = m ((c.tc : Thread Cert.ProjGIdeal.nD Cert.ProjGIdeal.τ).loc Cert.ProjGIdeal.main_arg0)
      ∧ m' ((c.tc : Thread Cert.RefGIdeal.nD Cert.RefGIdeal.τ).loc Cert.RefGIdeal.main_arg1) = m ((c.tc : Thread Cert.ProjGIdeal.nD Cert.ProjGIdeal.τ).loc Cert.ProjGIdeal.main_arg1)
      ∧ m' ((c.tc : Thread Cert.RefGIdeal.nD Cert.RefGIdeal.τ).loc Cert.RefGIdeal.main_arg2) = m ((c.tc : Thread Cert.ProjGIdeal.nD Cert.ProjGIdeal.τ).loc Cert.ProjGIdeal.main_arg2)) →
    ∃ (v0 : (c : Dev Cert.ProjGIdeal.nD) → Buf (Elt Ideal) ((c.tc : Thread Cert.ProjGIdeal.nD Cert.ProjGIdeal.τ).loc Cert.ProjGIdeal.main_v1)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v1) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1)
          ∧ r.2.mem ((c.tc : Thread Cert.ProjGIdeal.nD Cert.ProjGIdeal.τ).loc Cert.ProjGIdeal.main_arg2) = m ((c.tc : Thread Cert.ProjGIdeal.nD Cert.ProjGIdeal.τ).loc Cert.ProjGIdeal.main_arg2))
      ∧ θ_run (Cert.RefGIdeal.defs (F := Ideal)) (onTc (τ := Cert.RefGIdeal.τ) (Cert.RefGIdeal.main (F := Ideal))) ⟨m', fun _ => 0, g'⟩ (fun r => ∀ c : Dev Cert.RefGIdeal.nD,
          r.2.mem ((c.tc : Thread Cert.RefGIdeal.nD Cert.RefGIdeal.τ).loc Cert.RefGIdeal.main_v0) = v0 c
          ∧ r.2.mem ((c.tc : Thread Cert.RefGIdeal.nD Cert.RefGIdeal.τ).loc Cert.RefGIdeal.main_arg0) = m' ((c.tc : Thread Cert.RefGIdeal.nD Cert.RefGIdeal.τ).loc Cert.RefGIdeal.main_arg0)
          ∧ r.2.mem ((c.tc : Thread Cert.RefGIdeal.nD Cert.RefGIdeal.τ).loc Cert.RefGIdeal.main_arg1) = m' ((c.tc : Thread Cert.RefGIdeal.nD Cert.RefGIdeal.τ).loc Cert.RefGIdeal.main_arg1)
          ∧ r.2.mem ((c.tc : Thread Cert.RefGIdeal.nD Cert.RefGIdeal.τ).loc Cert.RefGIdeal.main_arg2) = m' ((c.tc : Thread Cert.RefGIdeal.nD Cert.RefGIdeal.τ).loc Cert.RefGIdeal.main_arg2))

def preserves_OutProj_OutProjIdeal : Prop :=
  True

def algebraic_OutProjIdeal_RefOutIdeal_pre_scales_normal_out [hOutProjIdeal : Cert.OutProjIdeal.Facts] [hRefOutIdeal : Cert.RefOutIdeal.Facts] [hPre_scales_normal_out : Cert.Pre_scales_normal_out.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutProjIdeal_scales_normal_out m →
    (∀ c : Dev Cert.OutProjIdeal.nD,
      m' ((c.tc : Thread Cert.RefOutIdeal.nD Cert.RefOutIdeal.τ).loc Cert.RefOutIdeal.main_arg0) = m ((c.tc : Thread Cert.OutProjIdeal.nD Cert.OutProjIdeal.τ).loc Cert.OutProjIdeal.main_arg0)
      ∧ m' ((c.tc : Thread Cert.RefOutIdeal.nD Cert.RefOutIdeal.τ).loc Cert.RefOutIdeal.main_arg1) = m ((c.tc : Thread Cert.OutProjIdeal.nD Cert.OutProjIdeal.τ).loc Cert.OutProjIdeal.main_arg1)
      ∧ m' ((c.tc : Thread Cert.RefOutIdeal.nD Cert.RefOutIdeal.τ).loc Cert.RefOutIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v0) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2))

def preserves_Gates_GatesIdeal : Prop :=
  True

def algebraic_GatesIdeal_RefGatesIdeal_pre_scales_normal_gates [hGatesIdeal : Cert.GatesIdeal.Facts] [hRefGatesIdeal : Cert.RefGatesIdeal.Facts] [hPre_scales_normal_gates : Cert.Pre_scales_normal_gates.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.RefGatesIdeal.nD Cert.RefGatesIdeal.τ Cert.RefGatesIdeal.sig) → Buf (Elt Ideal) ℓ) (g' : Dev Cert.RefGatesIdeal.nD → PrngReg), Pre_GatesIdeal_scales_normal_gates m →
    (∀ c : Dev Cert.GatesIdeal.nD,
      m' ((c.tc : Thread Cert.RefGatesIdeal.nD Cert.RefGatesIdeal.τ).loc Cert.RefGatesIdeal.main_arg0) = m ((c.tc : Thread Cert.GatesIdeal.nD Cert.GatesIdeal.τ).loc Cert.GatesIdeal.main_arg0)
      ∧ m' ((c.tc : Thread Cert.RefGatesIdeal.nD Cert.RefGatesIdeal.τ).loc Cert.RefGatesIdeal.main_arg1) = m ((c.tc : Thread Cert.GatesIdeal.nD Cert.GatesIdeal.τ).loc Cert.GatesIdeal.main_arg1)
      ∧ m' ((c.tc : Thread Cert.RefGatesIdeal.nD Cert.RefGatesIdeal.τ).loc Cert.RefGatesIdeal.main_arg2) = m ((c.tc : Thread Cert.GatesIdeal.nD Cert.GatesIdeal.τ).loc Cert.GatesIdeal.main_arg2)
      ∧ m' ((c.tc : Thread Cert.RefGatesIdeal.nD Cert.RefGatesIdeal.τ).loc Cert.RefGatesIdeal.main_arg3) = m ((c.tc : Thread Cert.GatesIdeal.nD Cert.GatesIdeal.τ).loc Cert.GatesIdeal.main_arg3)
      ∧ m' ((c.tc : Thread Cert.RefGatesIdeal.nD Cert.RefGatesIdeal.τ).loc Cert.RefGatesIdeal.main_arg4) = m ((c.tc : Thread Cert.GatesIdeal.nD Cert.GatesIdeal.τ).loc Cert.GatesIdeal.main_arg4)
      ∧ m' ((c.tc : Thread Cert.RefGatesIdeal.nD Cert.RefGatesIdeal.τ).loc Cert.RefGatesIdeal.main_arg5) = m ((c.tc : Thread Cert.GatesIdeal.nD Cert.GatesIdeal.τ).loc Cert.GatesIdeal.main_arg5)
      ∧ m' ((c.tc : Thread Cert.RefGatesIdeal.nD Cert.RefGatesIdeal.τ).loc Cert.RefGatesIdeal.main_arg6) = m ((c.tc : Thread Cert.GatesIdeal.nD Cert.GatesIdeal.τ).loc Cert.GatesIdeal.main_arg6)) →
    ∃ (v0 : (c : Dev Cert.GatesIdeal.nD) → Buf (Elt Ideal) ((c.tc : Thread Cert.GatesIdeal.nD Cert.GatesIdeal.τ).loc Cert.GatesIdeal.main_v11)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v11) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ θ_run (Cert.RefGatesIdeal.defs (F := Ideal)) (onTc (τ := Cert.RefGatesIdeal.τ) (Cert.RefGatesIdeal.main (F := Ideal))) ⟨m', fun _ => 0, g'⟩ (fun r => ∀ c : Dev Cert.RefGatesIdeal.nD,
          r.2.mem ((c.tc : Thread Cert.RefGatesIdeal.nD Cert.RefGatesIdeal.τ).loc Cert.RefGatesIdeal.main_v0) = v0 c
          ∧ r.2.mem ((c.tc : Thread Cert.RefGatesIdeal.nD Cert.RefGatesIdeal.τ).loc Cert.RefGatesIdeal.main_arg0) = m' ((c.tc : Thread Cert.RefGatesIdeal.nD Cert.RefGatesIdeal.τ).loc Cert.RefGatesIdeal.main_arg0)
          ∧ r.2.mem ((c.tc : Thread Cert.RefGatesIdeal.nD Cert.RefGatesIdeal.τ).loc Cert.RefGatesIdeal.main_arg1) = m' ((c.tc : Thread Cert.RefGatesIdeal.nD Cert.RefGatesIdeal.τ).loc Cert.RefGatesIdeal.main_arg1)
          ∧ r.2.mem ((c.tc : Thread Cert.RefGatesIdeal.nD Cert.RefGatesIdeal.τ).loc Cert.RefGatesIdeal.main_arg2) = m' ((c.tc : Thread Cert.RefGatesIdeal.nD Cert.RefGatesIdeal.τ).loc Cert.RefGatesIdeal.main_arg2)
          ∧ r.2.mem ((c.tc : Thread Cert.RefGatesIdeal.nD Cert.RefGatesIdeal.τ).loc Cert.RefGatesIdeal.main_arg3) = m' ((c.tc : Thread Cert.RefGatesIdeal.nD Cert.RefGatesIdeal.τ).loc Cert.RefGatesIdeal.main_arg3)
          ∧ r.2.mem ((c.tc : Thread Cert.RefGatesIdeal.nD Cert.RefGatesIdeal.τ).loc Cert.RefGatesIdeal.main_arg4) = m' ((c.tc : Thread Cert.RefGatesIdeal.nD Cert.RefGatesIdeal.τ).loc Cert.RefGatesIdeal.main_arg4)
          ∧ r.2.mem ((c.tc : Thread Cert.RefGatesIdeal.nD Cert.RefGatesIdeal.τ).loc Cert.RefGatesIdeal.main_arg5) = m' ((c.tc : Thread Cert.RefGatesIdeal.nD Cert.RefGatesIdeal.τ).loc Cert.RefGatesIdeal.main_arg5)
          ∧ r.2.mem ((c.tc : Thread Cert.RefGatesIdeal.nD Cert.RefGatesIdeal.τ).loc Cert.RefGatesIdeal.main_arg6) = m' ((c.tc : Thread Cert.RefGatesIdeal.nD Cert.RefGatesIdeal.τ).loc Cert.RefGatesIdeal.main_arg6))

def Claim : Prop :=
  ∃ (hProjQ : Cert.ProjQ.Facts) (hProjQIdeal : Cert.ProjQIdeal.Facts) (hRefQIdeal : Cert.RefQIdeal.Facts) (hProjV : Cert.ProjV.Facts) (hProjVIdeal : Cert.ProjVIdeal.Facts) (hRefVIdeal : Cert.RefVIdeal.Facts) (hProjG : Cert.ProjG.Facts) (hProjGIdeal : Cert.ProjGIdeal.Facts) (hRefGIdeal : Cert.RefGIdeal.Facts) (hOutProj : Cert.OutProj.Facts) (hOutProjIdeal : Cert.OutProjIdeal.Facts) (hRefOutIdeal : Cert.RefOutIdeal.Facts) (hGates : Cert.Gates.Facts) (hGatesIdeal : Cert.GatesIdeal.Facts) (hRefGatesIdeal : Cert.RefGatesIdeal.Facts) (hPre_scales_normal_q : Cert.Pre_scales_normal_q.Facts) (hPre_scales_normal_v : Cert.Pre_scales_normal_v.Facts) (hPre_scales_normal_g : Cert.Pre_scales_normal_g.Facts) (hPre_scales_normal_out : Cert.Pre_scales_normal_out.Facts) (hPre_scales_normal_gates : Cert.Pre_scales_normal_gates.Facts),
    quiescent_ProjQ (hProjQ := hProjQ)
    ∧ quiescent_ProjQIdeal (hProjQIdeal := hProjQIdeal)
    ∧ quiescent_ProjQIdeal_pre_scales_normal_q (hProjQIdeal := hProjQIdeal) (hPre_scales_normal_q := hPre_scales_normal_q)
    ∧ quiescent_RefQIdeal (hRefQIdeal := hRefQIdeal)
    ∧ quiescent_RefQIdeal_pre_scales_normal_q (hRefQIdeal := hRefQIdeal) (hPre_scales_normal_q := hPre_scales_normal_q)
    ∧ quiescent_ProjV (hProjV := hProjV)
    ∧ quiescent_ProjVIdeal (hProjVIdeal := hProjVIdeal)
    ∧ quiescent_ProjVIdeal_pre_scales_normal_v (hProjVIdeal := hProjVIdeal) (hPre_scales_normal_v := hPre_scales_normal_v)
    ∧ quiescent_RefVIdeal (hRefVIdeal := hRefVIdeal)
    ∧ quiescent_RefVIdeal_pre_scales_normal_v (hRefVIdeal := hRefVIdeal) (hPre_scales_normal_v := hPre_scales_normal_v)
    ∧ quiescent_ProjG (hProjG := hProjG)
    ∧ quiescent_ProjGIdeal (hProjGIdeal := hProjGIdeal)
    ∧ quiescent_ProjGIdeal_pre_scales_normal_g (hProjGIdeal := hProjGIdeal) (hPre_scales_normal_g := hPre_scales_normal_g)
    ∧ quiescent_RefGIdeal (hRefGIdeal := hRefGIdeal)
    ∧ quiescent_RefGIdeal_pre_scales_normal_g (hRefGIdeal := hRefGIdeal) (hPre_scales_normal_g := hPre_scales_normal_g)
    ∧ quiescent_OutProj (hOutProj := hOutProj)
    ∧ quiescent_OutProjIdeal (hOutProjIdeal := hOutProjIdeal)
    ∧ quiescent_OutProjIdeal_pre_scales_normal_out (hOutProjIdeal := hOutProjIdeal) (hPre_scales_normal_out := hPre_scales_normal_out)
    ∧ quiescent_RefOutIdeal (hRefOutIdeal := hRefOutIdeal)
    ∧ quiescent_RefOutIdeal_pre_scales_normal_out (hRefOutIdeal := hRefOutIdeal) (hPre_scales_normal_out := hPre_scales_normal_out)
    ∧ quiescent_Gates (hGates := hGates)
    ∧ quiescent_GatesIdeal (hGatesIdeal := hGatesIdeal)
    ∧ quiescent_GatesIdeal_pre_scales_normal_gates (hGatesIdeal := hGatesIdeal) (hPre_scales_normal_gates := hPre_scales_normal_gates)
    ∧ quiescent_RefGatesIdeal (hRefGatesIdeal := hRefGatesIdeal)
    ∧ quiescent_RefGatesIdeal_pre_scales_normal_gates (hRefGatesIdeal := hRefGatesIdeal) (hPre_scales_normal_gates := hPre_scales_normal_gates)
    ∧ preserves_ProjQ_ProjQIdeal
    ∧ algebraic_ProjQIdeal_RefQIdeal_pre_scales_normal_q (hProjQIdeal := hProjQIdeal) (hRefQIdeal := hRefQIdeal) (hPre_scales_normal_q := hPre_scales_normal_q)
    ∧ preserves_ProjV_ProjVIdeal
    ∧ algebraic_ProjVIdeal_RefVIdeal_pre_scales_normal_v (hProjVIdeal := hProjVIdeal) (hRefVIdeal := hRefVIdeal) (hPre_scales_normal_v := hPre_scales_normal_v)
    ∧ preserves_ProjG_ProjGIdeal
    ∧ algebraic_ProjGIdeal_RefGIdeal_pre_scales_normal_g (hProjGIdeal := hProjGIdeal) (hRefGIdeal := hRefGIdeal) (hPre_scales_normal_g := hPre_scales_normal_g)
    ∧ preserves_OutProj_OutProjIdeal
    ∧ algebraic_OutProjIdeal_RefOutIdeal_pre_scales_normal_out (hOutProjIdeal := hOutProjIdeal) (hRefOutIdeal := hRefOutIdeal) (hPre_scales_normal_out := hPre_scales_normal_out)
    ∧ preserves_Gates_GatesIdeal
    ∧ algebraic_GatesIdeal_RefGatesIdeal_pre_scales_normal_gates (hGatesIdeal := hGatesIdeal) (hRefGatesIdeal := hRefGatesIdeal) (hPre_scales_normal_gates := hPre_scales_normal_gates)
-- ==== Pre_scales_normal_g.lean ====
abbrev S2x768x8192 : Shape := ⟨3, ![2, 768, 8192]⟩
abbrev S15360x8192 : Shape := ⟨2, ![15360, 8192]⟩
abbrev S15360x256 : Shape := ⟨2, ![15360, 256]⟩
abbrev S_ : Shape := ⟨0, ![]⟩

class Facts : Prop where
  bcast_S_S15360x256 : S_.BroadcastsInDim S15360x256 (![] : Fin 0 → Fin S15360x256.rank)

variable [Facts]

def fn {F : FTy → Type} [FloatOps F] (main_arg0 : FVec F S2x768x8192 .bf16) (main_arg1 : FVec F S15360x8192 .fp8e4m3) (main_arg2 : IVec S15360x256 8) : IVec S15360x256 1 :=
  let main_c : IVec S_ 8 := constantI S_ 8 0#8
  let main_v0 : IVec S15360x256 8 := broadcastInDim S15360x256 ![] bcast_S_S15360x256 main_c
  let main_v1 : IVec S15360x256 1 := cmpi .ne main_arg2 main_v0
  let main_c_0 : IVec S_ 8 := constantI S_ 8 255#8
  let main_v2 : IVec S15360x256 8 := broadcastInDim S15360x256 ![] bcast_S_S15360x256 main_c_0
  let main_v3 : IVec S15360x256 1 := cmpi .ne main_arg2 main_v2
  let main_v4 : IVec S15360x256 1 := andi main_v1 main_v3
  main_v4
-- ==== Pre_scales_normal_gates.lean ====
abbrev S2x768x8192 : Shape := ⟨3, ![2, 768, 8192]⟩
abbrev S40x8192 : Shape := ⟨2, ![40, 8192]⟩
abbrev S40x256 : Shape := ⟨2, ![40, 256]⟩
abbrev S40 : Shape := ⟨1, ![40]⟩
abbrev S_ : Shape := ⟨0, ![]⟩

class Facts : Prop where
  bcast_S_S40x256 : S_.BroadcastsInDim S40x256 (![] : Fin 0 → Fin S40x256.rank)

variable [Facts]

def fn {F : FTy → Type} [FloatOps F] (main_arg0 : FVec F S2x768x8192 .bf16) (main_arg1 : FVec F S40x8192 .fp8e4m3) (main_arg2 : IVec S40x256 8) (main_arg3 : FVec F S40x8192 .fp8e4m3) (main_arg4 : IVec S40x256 8) (main_arg5 : FVec F S40 .f32) (main_arg6 : FVec F S40 .f32) : IVec S40x256 1 :=
  let main_c : IVec S_ 8 := constantI S_ 8 0#8
  let main_v0 : IVec S40x256 8 := broadcastInDim S40x256 ![] bcast_S_S40x256 main_c
  let main_v1 : IVec S40x256 1 := cmpi .ne main_arg2 main_v0
  let main_c_0 : IVec S_ 8 := constantI S_ 8 255#8
  let main_v2 : IVec S40x256 8 := broadcastInDim S40x256 ![] bcast_S_S40x256 main_c_0
  let main_v3 : IVec S40x256 1 := cmpi .ne main_arg2 main_v2
  let main_v4 : IVec S40x256 1 := andi main_v1 main_v3
  let main_c_1 : IVec S_ 8 := constantI S_ 8 0#8
  let main_v5 : IVec S40x256 8 := broadcastInDim S40x256 ![] bcast_S_S40x256 main_c_1
  let main_v6 : IVec S40x256 1 := cmpi .ne main_arg4 main_v5
  let main_v7 : IVec S40x256 1 := andi main_v4 main_v6
  let main_c_2 : IVec S_ 8 := constantI S_ 8 255#8
  let main_v8 : IVec S40x256 8 := broadcastInDim S40x256 ![] bcast_S_S40x256 main_c_2
  let main_v9 : IVec S40x256 1 := cmpi .ne main_arg4 main_v8
  let main_v10 : IVec S40x256 1 := andi main_v7 main_v9
  main_v10
-- ==== Pre_scales_normal_out.lean ====
abbrev S2x768x15360 : Shape := ⟨3, ![2, 768, 15360]⟩
abbrev S8192x15360 : Shape := ⟨2, ![8192, 15360]⟩
abbrev S8192x480 : Shape := ⟨2, ![8192, 480]⟩
abbrev S_ : Shape := ⟨0, ![]⟩

class Facts : Prop where
  bcast_S_S8192x480 : S_.BroadcastsInDim S8192x480 (![] : Fin 0 → Fin S8192x480.rank)

variable [Facts]

def fn {F : FTy → Type} [FloatOps F] (main_arg0 : FVec F S2x768x15360 .bf16) (main_arg1 : FVec F S8192x15360 .fp8e4m3) (main_arg2 : IVec S8192x480 8) : IVec S8192x480 1 :=
  let main_c : IVec S_ 8 := constantI S_ 8 0#8
  let main_v0 : IVec S8192x480 8 := broadcastInDim S8192x480 ![] bcast_S_S8192x480 main_c
  let main_v1 : IVec S8192x480 1 := cmpi .ne main_arg2 main_v0
  let main_c_0 : IVec S_ 8 := constantI S_ 8 255#8
  let main_v2 : IVec S8192x480 8 := broadcastInDim S8192x480 ![] bcast_S_S8192x480 main_c_0
  let main_v3 : IVec S8192x480 1 := cmpi .ne main_arg2 main_v2
  let main_v4 : IVec S8192x480 1 := andi main_v1 main_v3
  main_v4
-- ==== Pre_scales_normal_q.lean ====
abbrev S2x768x8192 : Shape := ⟨3, ![2, 768, 8192]⟩
abbrev S5120x8192 : Shape := ⟨2, ![5120, 8192]⟩
abbrev S5120x256 : Shape := ⟨2, ![5120, 256]⟩
abbrev S2x3x5120 : Shape := ⟨3, ![2, 3, 5120]⟩
abbrev S5120x4 : Shape := ⟨2, ![5120, 4]⟩
abbrev S_ : Shape := ⟨0, ![]⟩

class Facts : Prop where
  bcast_S_S5120x256 : S_.BroadcastsInDim S5120x256 (![] : Fin 0 → Fin S5120x256.rank)

variable [Facts]

def fn {F : FTy → Type} [FloatOps F] (main_arg0 : FVec F S2x768x8192 .bf16) (main_arg1 : FVec F S5120x8192 .fp8e4m3) (main_arg2 : IVec S5120x256 8) (main_arg3 : FVec F S2x3x5120 .bf16) (main_arg4 : FVec F S5120x4 .f32) : IVec S5120x256 1 :=
  let main_c : IVec S_ 8 := constantI S_ 8 0#8
  let main_v0 : IVec S5120x256 8 := broadcastInDim S5120x256 ![] bcast_S_S5120x256 main_c
  let main_v1 : IVec S5120x256 1 := cmpi .ne main_arg2 main_v0
  let main_c_0 : IVec S_ 8 := constantI S_ 8 255#8
  let main_v2 : IVec S5120x256 8 := broadcastInDim S5120x256 ![] bcast_S_S5120x256 main_c_0
  let main_v3 : IVec S5120x256 1 := cmpi .ne main_arg2 main_v2
  let main_v4 : IVec S5120x256 1 := andi main_v1 main_v3
  main_v4
-- ==== Pre_scales_normal_v.lean ====
abbrev S2x768x8192 : Shape := ⟨3, ![2, 768, 8192]⟩
abbrev S15360x8192 : Shape := ⟨2, ![15360, 8192]⟩
abbrev S15360x256 : Shape := ⟨2, ![15360, 256]⟩
abbrev S2x3x15360 : Shape := ⟨3, ![2, 3, 15360]⟩
abbrev S15360x4 : Shape := ⟨2, ![15360, 4]⟩
abbrev S_ : Shape := ⟨0, ![]⟩

class Facts : Prop where
  bcast_S_S15360x256 : S_.BroadcastsInDim S15360x256 (![] : Fin 0 → Fin S15360x256.rank)

variable [Facts]

def fn {F : FTy → Type} [FloatOps F] (main_arg0 : FVec F S2x768x8192 .bf16) (main_arg1 : FVec F S15360x8192 .fp8e4m3) (main_arg2 : IVec S15360x256 8) (main_arg3 : FVec F S2x3x15360 .bf16) (main_arg4 : FVec F S15360x4 .f32) : IVec S15360x256 1 :=
  let main_c : IVec S_ 8 := constantI S_ 8 0#8
  let main_v0 : IVec S15360x256 8 := broadcastInDim S15360x256 ![] bcast_S_S15360x256 main_c
  let main_v1 : IVec S15360x256 1 := cmpi .ne main_arg2 main_v0
  let main_c_0 : IVec S_ 8 := constantI S_ 8 255#8
  let main_v2 : IVec S15360x256 8 := broadcastInDim S15360x256 ![] bcast_S_S15360x256 main_c_0
  let main_v3 : IVec S15360x256 1 := cmpi .ne main_arg2 main_v2
  let main_v4 : IVec S15360x256 1 := andi main_v1 main_v3
  main_v4
-- ==== ProjQ.lean ====
abbrev S2x768x8192 : Shape := ⟨3, ![2, 768, 8192]⟩
abbrev S5120x8192 : Shape := ⟨2, ![5120, 8192]⟩
abbrev S5120x256 : Shape := ⟨2, ![5120, 256]⟩
abbrev S2x3x5120 : Shape := ⟨3, ![2, 3, 5120]⟩
abbrev S5120x4 : Shape := ⟨2, ![5120, 4]⟩
abbrev S1536x8192 : Shape := ⟨2, ![1536, 8192]⟩
abbrev S4x5120 : Shape := ⟨2, ![4, 5120]⟩
abbrev S1536x5120 : Shape := ⟨2, ![1536, 5120]⟩
abbrev S512x8192 : Shape := ⟨2, ![512, 8192]⟩
abbrev S512x256 : Shape := ⟨2, ![512, 256]⟩
abbrev S2x3x512 : Shape := ⟨3, ![2, 3, 512]⟩
abbrev S4x512 : Shape := ⟨2, ![4, 512]⟩
abbrev S1536x512 : Shape := ⟨2, ![1536, 512]⟩
abbrev S512x128 : Shape := ⟨2, ![512, 128]⟩
abbrev S512x128x1 : Shape := ⟨3, ![512, 128, 1]⟩
abbrev S768x512 : Shape := ⟨2, ![768, 512]⟩
abbrev S3x512 : Shape := ⟨2, ![3, 512]⟩
abbrev S1x3x512 : Shape := ⟨3, ![1, 3, 512]⟩
abbrev S771x512 : Shape := ⟨2, ![771, 512]⟩
abbrev S1x512 : Shape := ⟨2, ![1, 512]⟩

abbrev nBuf : Space → Nat
  | .hbm => 9
  | .vmem => 14
  | .smem => 0
  | _ => 0

abbrev bufTy : (tb : Table) → Fin (tcTables nBuf tb) → BufTy
  | .hbm, ⟨0, _⟩ => ⟨S2x768x8192, .bf16⟩
  | .hbm, ⟨1, _⟩ => ⟨S5120x8192, .fp8e4m3⟩
  | .hbm, ⟨2, _⟩ => ⟨S5120x256, .i8⟩
  | .hbm, ⟨3, _⟩ => ⟨S2x3x5120, .bf16⟩
  | .hbm, ⟨4, _⟩ => ⟨S5120x4, .f32⟩
  | .hbm, ⟨5, _⟩ => ⟨S1536x8192, .bf16⟩
  | .hbm, ⟨6, _⟩ => ⟨S4x5120, .f32⟩
  | .hbm, ⟨7, _⟩ => ⟨S1536x5120, .bf16⟩
  | .hbm, ⟨8, _⟩ => ⟨S2x3x5120, .bf16⟩
  | .local _ .vmem, ⟨0, _⟩ => ⟨S1536x8192, .bf16⟩
  | .local _ .vmem, ⟨1, _⟩ => ⟨S512x8192, .fp8e4m3⟩
  | .local _ .vmem, ⟨2, _⟩ => ⟨S512x8192, .fp8e4m3⟩
  | .local _ .vmem, ⟨3, _⟩ => ⟨S512x256, .i8⟩
  | .local _ .vmem, ⟨4, _⟩ => ⟨S512x256, .i8⟩
  | .local _ .vmem, ⟨5, _⟩ => ⟨S2x3x512, .bf16⟩
  | .local _ .vmem, ⟨6, _⟩ => ⟨S2x3x512, .bf16⟩
  | .local _ .vmem, ⟨7, _⟩ => ⟨S4x512, .f32⟩
  | .local _ .vmem, ⟨8, _⟩ => ⟨S4x512, .f32⟩
  | .local _ .vmem, ⟨9, _⟩ => ⟨S1536x512, .bf16⟩
  | .local _ .vmem, ⟨10, _⟩ => ⟨S1536x512, .bf16⟩
  | .local _ .vmem, ⟨11, _⟩ => ⟨S2x3x512, .bf16⟩
  | .local _ .vmem, ⟨12, _⟩ => ⟨S2x3x512, .bf16⟩
  | .local _ .vmem, ⟨13, _⟩ => ⟨S512x8192, .bf16⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x3x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x3x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefQIdeal.lean ====
abbrev S2x768x8192 : Shape := ⟨3, ![2, 768, 8192]⟩
abbrev S5120x8192 : Shape := ⟨2, ![5120, 8192]⟩
abbrev S5120x256 : Shape := ⟨2, ![5120, 256]⟩
abbrev S2x3x5120 : Shape := ⟨3, ![2, 3, 5120]⟩
abbrev S5120x4 : Shape := ⟨2, ![5120, 4]⟩
abbrev S1536x5120 : Shape := ⟨2, ![1536, 5120]⟩
abbrev S5120x256x32 : Shape := ⟨3, ![5120, 256, 32]⟩
abbrev S5120x256x1 : Shape := ⟨3, ![5120, 256, 1]⟩
abbrev S2x768x5120 : Shape := ⟨3, ![2, 768, 5120]⟩
abbrev S2x771x5120 : Shape := ⟨3, ![2, 771, 5120]⟩
abbrev S5120x1 : Shape := ⟨2, ![5120, 1]⟩
abbrev S5120 : Shape := ⟨1, ![5120]⟩
abbrev S1x1x5120 : Shape := ⟨3, ![1, 1, 5120]⟩

abbrev nBuf : Space → Nat
  | .hbm => 7
  | .vmem => 7
  | .smem => 0
  | _ => 0

abbrev bufTy : (tb : Table) → Fin (tcTables nBuf tb) → BufTy
  | .hbm, ⟨0, _⟩ => ⟨S2x768x8192, .bf16⟩
  | .hbm, ⟨1, _⟩ => ⟨S5120x8192, .fp8e4m3⟩
  | .hbm, ⟨2, _⟩ => ⟨S5120x256, .i8⟩
  | .hbm, ⟨3, _⟩ => ⟨S2x3x5120, .bf16⟩
  | .hbm, ⟨4, _⟩ => ⟨S5120x4, .f32⟩
  | .hbm, ⟨5, _⟩ => ⟨S1536x5120, .bf16⟩
  | .hbm, ⟨6, _⟩ => ⟨S2x3x5120, .bf16⟩
  | .local _ .vmem, ⟨0, _⟩ => ⟨S2x768x8192, .bf16⟩
  | .local _ .vmem, ⟨1, _⟩ => ⟨S5120x8192, .fp8e4m3⟩
  | .local _ .vmem, ⟨2, _⟩ => ⟨S5120x256, .i8⟩
  | .local _ .vmem, ⟨3, _⟩ => ⟨S2x3x5120, .bf16⟩
  | .local _ .vmem, ⟨4, _⟩ => ⟨S5120x4, .f32⟩
  | .local _ .vmem, ⟨5, _⟩ => ⟨S1536x5120, .bf16⟩
  | .local _ .vmem, ⟨6, _⟩ => ⟨S2x3x5120, .bf16⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x768x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ProjV.lean ====
abbrev S2x768x8192 : Shape := ⟨3, ![2, 768, 8192]⟩
abbrev S15360x8192 : Shape := ⟨2, ![15360, 8192]⟩
abbrev S15360x256 : Shape := ⟨2, ![15360, 256]⟩
abbrev S2x3x15360 : Shape := ⟨3, ![2, 3, 15360]⟩
abbrev S15360x4 : Shape := ⟨2, ![15360, 4]⟩
abbrev S1536x8192 : Shape := ⟨2, ![1536, 8192]⟩
abbrev S4x15360 : Shape := ⟨2, ![4, 15360]⟩
abbrev S1536x15360 : Shape := ⟨2, ![1536, 15360]⟩
abbrev S512x8192 : Shape := ⟨2, ![512, 8192]⟩
abbrev S512x256 : Shape := ⟨2, ![512, 256]⟩
abbrev S2x3x512 : Shape := ⟨3, ![2, 3, 512]⟩
abbrev S4x512 : Shape := ⟨2, ![4, 512]⟩
abbrev S1536x512 : Shape := ⟨2, ![1536, 512]⟩
abbrev S512x128 : Shape := ⟨2, ![512, 128]⟩
abbrev S512x128x1 : Shape := ⟨3, ![512, 128, 1]⟩
abbrev S768x512 : Shape := ⟨2, ![768, 512]⟩
abbrev S3x512 : Shape := ⟨2, ![3, 512]⟩
abbrev S1x3x512 : Shape := ⟨3, ![1, 3, 512]⟩
abbrev S771x512 : Shape := ⟨2, ![771, 512]⟩
abbrev S1x512 : Shape := ⟨2, ![1, 512]⟩

abbrev nBuf : Space → Nat
  | .hbm => 9
  | .vmem => 14
  | .smem => 0
  | _ => 0

abbrev bufTy : (tb : Table) → Fin (tcTables nBuf tb) → BufTy
  | .hbm, ⟨0, _⟩ => ⟨S2x768x8192, .bf16⟩
  | .hbm, ⟨1, _⟩ => ⟨S15360x8192, .fp8e4m3⟩
  | .hbm, ⟨2, _⟩ => ⟨S15360x256, .i8⟩
  | .hbm, ⟨3, _⟩ => ⟨S2x3x15360, .bf16⟩
  | .hbm, ⟨4, _⟩ => ⟨S15360x4, .f32⟩
  | .hbm, ⟨5, _⟩ => ⟨S1536x8192, .bf16⟩
  | .hbm, ⟨6, _⟩ => ⟨S4x15360, .f32⟩
  | .hbm, ⟨7, _⟩ => ⟨S1536x15360, .bf16⟩
  | .hbm, ⟨8, _⟩ => ⟨S2x3x15360, .bf16⟩
  | .local _ .vmem, ⟨0, _⟩ => ⟨S1536x8192, .bf16⟩
  | .local _ .vmem, ⟨1, _⟩ => ⟨S512x8192, .fp8e4m3⟩
  | .local _ .vmem, ⟨2, _⟩ => ⟨S512x8192, .fp8e4m3⟩
  | .local _ .vmem, ⟨3, _⟩ => ⟨S512x256, .i8⟩
  | .local _ .vmem, ⟨4, _⟩ => ⟨S512x256, .i8⟩
  | .local _ .vmem, ⟨5, _⟩ => ⟨S2x3x512, .bf16⟩
  | .local _ .vmem, ⟨6, _⟩ => ⟨S2x3x512, .bf16⟩
  | .local _ .vmem, ⟨7, _⟩ => ⟨S4x512, .f32⟩
  | .local _ .vmem, ⟨8, _⟩ => ⟨S4x512, .f32⟩
  | .local _ .vmem, ⟨9, _⟩ => ⟨S1536x512, .bf16⟩
  | .local _ .vmem, ⟨10, _⟩ => ⟨S1536x512, .bf16⟩
  | .local _ .vmem, ⟨11, _⟩ => ⟨S2x3x512, .bf16⟩
  | .local _ .vmem, ⟨12, _⟩ => ⟨S2x3x512, .bf16⟩
  | .local _ .vmem, ⟨13, _⟩ => ⟨S512x8192, .bf16⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x3x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x3x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefVIdeal.lean ====
abbrev S2x768x8192 : Shape := ⟨3, ![2, 768, 8192]⟩
abbrev S15360x8192 : Shape := ⟨2, ![15360, 8192]⟩
abbrev S15360x256 : Shape := ⟨2, ![15360, 256]⟩
abbrev S2x3x15360 : Shape := ⟨3, ![2, 3, 15360]⟩
abbrev S15360x4 : Shape := ⟨2, ![15360, 4]⟩
abbrev S1536x15360 : Shape := ⟨2, ![1536, 15360]⟩
abbrev S15360x256x32 : Shape := ⟨3, ![15360, 256, 32]⟩
abbrev S15360x256x1 : Shape := ⟨3, ![15360, 256, 1]⟩
abbrev S2x768x15360 : Shape := ⟨3, ![2, 768, 15360]⟩
abbrev S2x771x15360 : Shape := ⟨3, ![2, 771, 15360]⟩
abbrev S15360x1 : Shape := ⟨2, ![15360, 1]⟩
abbrev S15360 : Shape := ⟨1, ![15360]⟩
abbrev S1x1x15360 : Shape := ⟨3, ![1, 1, 15360]⟩

abbrev nBuf : Space → Nat
  | .hbm => 7
  | .vmem => 7
  | .smem => 0
  | _ => 0

abbrev bufTy : (tb : Table) → Fin (tcTables nBuf tb) → BufTy
  | .hbm, ⟨0, _⟩ => ⟨S2x768x8192, .bf16⟩
  | .hbm, ⟨1, _⟩ => ⟨S15360x8192, .fp8e4m3⟩
  | .hbm, ⟨2, _⟩ => ⟨S15360x256, .i8⟩
  | .hbm, ⟨3, _⟩ => ⟨S2x3x15360, .bf16⟩
  | .hbm, ⟨4, _⟩ => ⟨S15360x4, .f32⟩
  | .hbm, ⟨5, _⟩ => ⟨S1536x15360, .bf16⟩
  | .hbm, ⟨6, _⟩ => ⟨S2x3x15360, .bf16⟩
  | .local _ .vmem, ⟨0, _⟩ => ⟨S2x768x8192, .bf16⟩
  | .local _ .vmem, ⟨1, _⟩ => ⟨S15360x8192, .fp8e4m3⟩
  | .local _ .vmem, ⟨2, _⟩ => ⟨S15360x256, .i8⟩
  | .local _ .vmem, ⟨3, _⟩ => ⟨S2x3x15360, .bf16⟩
  | .local _ .vmem, ⟨4, _⟩ => ⟨S15360x4, .f32⟩
  | .local _ .vmem, ⟨5, _⟩ => ⟨S1536x15360, .bf16⟩
  | .local _ .vmem, ⟨6, _⟩ => ⟨S2x3x15360, .bf16⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x768x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3x15360 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15360x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x15360 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3x15360 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ProjG.lean ====
abbrev S2x768x8192 : Shape := ⟨3, ![2, 768, 8192]⟩
abbrev S15360x8192 : Shape := ⟨2, ![15360, 8192]⟩
abbrev S15360x256 : Shape := ⟨2, ![15360, 256]⟩
abbrev S1536x8192 : Shape := ⟨2, ![1536, 8192]⟩
abbrev S1536x15360 : Shape := ⟨2, ![1536, 15360]⟩
abbrev S512x8192 : Shape := ⟨2, ![512, 8192]⟩
abbrev S512x256 : Shape := ⟨2, ![512, 256]⟩
abbrev S1536x512 : Shape := ⟨2, ![1536, 512]⟩
abbrev S512x128 : Shape := ⟨2, ![512, 128]⟩
abbrev S512x128x1 : Shape := ⟨3, ![512, 128, 1]⟩

abbrev nBuf : Space → Nat
  | .hbm => 5
  | .vmem => 8
  | .smem => 0
  | _ => 0

abbrev bufTy : (tb : Table) → Fin (tcTables nBuf tb) → BufTy
  | .hbm, ⟨0, _⟩ => ⟨S2x768x8192, .bf16⟩
  | .hbm, ⟨1, _⟩ => ⟨S15360x8192, .fp8e4m3⟩
  | .hbm, ⟨2, _⟩ => ⟨S15360x256, .i8⟩
  | .hbm, ⟨3, _⟩ => ⟨S1536x8192, .bf16⟩
  | .hbm, ⟨4, _⟩ => ⟨S1536x15360, .bf16⟩
  | .local _ .vmem, ⟨0, _⟩ => ⟨S1536x8192, .bf16⟩
  | .local _ .vmem, ⟨1, _⟩ => ⟨S512x8192, .fp8e4m3⟩
  | .local _ .vmem, ⟨2, _⟩ => ⟨S512x8192, .fp8e4m3⟩
  | .local _ .vmem, ⟨3, _⟩ => ⟨S512x256, .i8⟩
  | .local _ .vmem, ⟨4, _⟩ => ⟨S512x256, .i8⟩
  | .local _ .vmem, ⟨5, _⟩ => ⟨S1536x512, .bf16⟩
  | .local _ .vmem, ⟨6, _⟩ => ⟨S1536x512, .bf16⟩
  | .local _ .vmem, ⟨7, _⟩ => ⟨S512x8192, .bf16⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefGIdeal.lean ====
abbrev S2x768x8192 : Shape := ⟨3, ![2, 768, 8192]⟩
abbrev S15360x8192 : Shape := ⟨2, ![15360, 8192]⟩
abbrev S15360x256 : Shape := ⟨2, ![15360, 256]⟩
abbrev S1536x15360 : Shape := ⟨2, ![1536, 15360]⟩
abbrev S15360x256x32 : Shape := ⟨3, ![15360, 256, 32]⟩
abbrev S15360x256x1 : Shape := ⟨3, ![15360, 256, 1]⟩
abbrev S2x768x15360 : Shape := ⟨3, ![2, 768, 15360]⟩

abbrev nBuf : Space → Nat
  | .hbm => 4
  | .vmem => 4
  | .smem => 0
  | _ => 0

abbrev bufTy : (tb : Table) → Fin (tcTables nBuf tb) → BufTy
  | .hbm, ⟨0, _⟩ => ⟨S2x768x8192, .bf16⟩
  | .hbm, ⟨1, _⟩ => ⟨S15360x8192, .fp8e4m3⟩
  | .hbm, ⟨2, _⟩ => ⟨S15360x256, .i8⟩
  | .hbm, ⟨3, _⟩ => ⟨S1536x15360, .bf16⟩
  | .local _ .vmem, ⟨0, _⟩ => ⟨S2x768x8192, .bf16⟩
  | .local _ .vmem, ⟨1, _⟩ => ⟨S15360x8192, .fp8e4m3⟩
  | .local _ .vmem, ⟨2, _⟩ => ⟨S15360x256, .i8⟩
  | .local _ .vmem, ⟨3, _⟩ => ⟨S1536x15360, .bf16⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x768x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x15360 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== OutProj.lean ====
abbrev S2x768x15360 : Shape := ⟨3, ![2, 768, 15360]⟩
abbrev S8192x15360 : Shape := ⟨2, ![8192, 15360]⟩
abbrev S8192x480 : Shape := ⟨2, ![8192, 480]⟩
abbrev S1536x15360 : Shape := ⟨2, ![1536, 15360]⟩
abbrev S1536x8192 : Shape := ⟨2, ![1536, 8192]⟩
abbrev S384x15360 : Shape := ⟨2, ![384, 15360]⟩
abbrev S256x15360 : Shape := ⟨2, ![256, 15360]⟩
abbrev S256x480 : Shape := ⟨2, ![256, 480]⟩
abbrev S384x256 : Shape := ⟨2, ![384, 256]⟩
abbrev S256x128 : Shape := ⟨2, ![256, 128]⟩
abbrev S256x128x1 : Shape := ⟨3, ![256, 128, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x768x15360, .bf16⟩
  | .hbm, ⟨1, _⟩ => ⟨S8192x15360, .fp8e4m3⟩
  | .hbm, ⟨2, _⟩ => ⟨S8192x480, .i8⟩
  | .hbm, ⟨3, _⟩ => ⟨S1536x15360, .bf16⟩
  | .hbm, ⟨4, _⟩ => ⟨S1536x8192, .bf16⟩
  | .local _ .vmem, ⟨0, _⟩ => ⟨S384x15360, .bf16⟩
  | .local _ .vmem, ⟨1, _⟩ => ⟨S384x15360, .bf16⟩
  | .local _ .vmem, ⟨2, _⟩ => ⟨S256x15360, .fp8e4m3⟩
  | .local _ .vmem, ⟨3, _⟩ => ⟨S256x15360, .fp8e4m3⟩
  | .local _ .vmem, ⟨4, _⟩ => ⟨S256x480, .i8⟩
  | .local _ .vmem, ⟨5, _⟩ => ⟨S256x480, .i8⟩
  | .local _ .vmem, ⟨6, _⟩ => ⟨S384x256, .bf16⟩
  | .local _ .vmem, ⟨7, _⟩ => ⟨S384x256, .bf16⟩
  | .local _ .vmem, ⟨8, _⟩ => ⟨S256x15360, .bf16⟩
  | _, _ => ⟨S2x768x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x15360 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x15360 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x480 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefOutIdeal.lean ====
abbrev S2x768x15360 : Shape := ⟨3, ![2, 768, 15360]⟩
abbrev S8192x15360 : Shape := ⟨2, ![8192, 15360]⟩
abbrev S8192x480 : Shape := ⟨2, ![8192, 480]⟩
abbrev S1536x8192 : Shape := ⟨2, ![1536, 8192]⟩
abbrev S8192x480x32 : Shape := ⟨3, ![8192, 480, 32]⟩
abbrev S8192x480x1 : Shape := ⟨3, ![8192, 480, 1]⟩
abbrev S2x768x8192 : Shape := ⟨3, ![2, 768, 8192]⟩

abbrev nBuf : Space → Nat
  | .hbm => 4
  | .vmem => 4
  | .smem => 0
  | _ => 0

abbrev bufTy : (tb : Table) → Fin (tcTables nBuf tb) → BufTy
  | .hbm, ⟨0, _⟩ => ⟨S2x768x15360, .bf16⟩
  | .hbm, ⟨1, _⟩ => ⟨S8192x15360, .fp8e4m3⟩
  | .hbm, ⟨2, _⟩ => ⟨S8192x480, .i8⟩
  | .hbm, ⟨3, _⟩ => ⟨S1536x8192, .bf16⟩
  | .local _ .vmem, ⟨0, _⟩ => ⟨S2x768x15360, .bf16⟩
  | .local _ .vmem, ⟨1, _⟩ => ⟨S8192x15360, .fp8e4m3⟩
  | .local _ .vmem, ⟨2, _⟩ => ⟨S8192x480, .i8⟩
  | .local _ .vmem, ⟨3, _⟩ => ⟨S1536x8192, .bf16⟩
  | _, _ => ⟨S2x768x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x768x15360 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x15360 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x480 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Gates.lean ====
abbrev S2x768x8192 : Shape := ⟨3, ![2, 768, 8192]⟩
abbrev S40x8192 : Shape := ⟨2, ![40, 8192]⟩
abbrev S40x256 : Shape := ⟨2, ![40, 256]⟩
abbrev S40 : Shape := ⟨1, ![40]⟩
abbrev S1536x8192 : Shape := ⟨2, ![1536, 8192]⟩
abbrev S_ : Shape := ⟨0, ![]⟩
abbrev S24x8192 : Shape := ⟨2, ![24, 8192]⟩
abbrev S128x8192 : Shape := ⟨2, ![128, 8192]⟩
abbrev S24x256 : Shape := ⟨2, ![24, 256]⟩
abbrev S128x256 : Shape := ⟨2, ![128, 256]⟩
abbrev S128 : Shape := ⟨1, ![128]⟩
abbrev S1x128 : Shape := ⟨2, ![1, 128]⟩
abbrev S1536x128 : Shape := ⟨2, ![1536, 128]⟩
abbrev S128x128 : Shape := ⟨2, ![128, 128]⟩
abbrev S128x128x1 : Shape := ⟨3, ![128, 128, 1]⟩
abbrev S64x128 : Shape := ⟨2, ![64, 128]⟩
abbrev S63x128 : Shape := ⟨2, ![63, 128]⟩
abbrev S2x128 : Shape := ⟨2, ![2, 128]⟩
abbrev S62x128 : Shape := ⟨2, ![62, 128]⟩
abbrev S4x128 : Shape := ⟨2, ![4, 128]⟩
abbrev S60x128 : Shape := ⟨2, ![60, 128]⟩
abbrev S8x128 : Shape := ⟨2, ![8, 128]⟩
abbrev S56x128 : Shape := ⟨2, ![56, 128]⟩
abbrev S16x128 : Shape := ⟨2, ![16, 128]⟩
abbrev S48x128 : Shape := ⟨2, ![48, 128]⟩
abbrev S32x128 : Shape := ⟨2, ![32, 128]⟩

abbrev nBuf : Space → Nat
  | .hbm => 25
  | .vmem => 7
  | .smem => 0
  | _ => 0

abbrev bufTy : (tb : Table) → Fin (tcTables nBuf tb) → BufTy
  | .hbm, ⟨0, _⟩ => ⟨S2x768x8192, .bf16⟩
  | .hbm, ⟨1, _⟩ => ⟨S40x8192, .fp8e4m3⟩
  | .hbm, ⟨2, _⟩ => ⟨S40x256, .i8⟩
  | .hbm, ⟨3, _⟩ => ⟨S40x8192, .fp8e4m3⟩
  | .hbm, ⟨4, _⟩ => ⟨S40x256, .i8⟩
  | .hbm, ⟨5, _⟩ => ⟨S40, .f32⟩
  | .hbm, ⟨6, _⟩ => ⟨S40, .f32⟩
  | .hbm, ⟨7, _⟩ => ⟨S1536x8192, .bf16⟩
  | .hbm, ⟨8, _⟩ => ⟨S_, .i8⟩
  | .hbm, ⟨9, _⟩ => ⟨S24x8192, .i8⟩
  | .hbm, ⟨10, _⟩ => ⟨S24x8192, .fp8e4m3⟩
  | .hbm, ⟨11, _⟩ => ⟨S128x8192, .fp8e4m3⟩
  | .hbm, ⟨12, _⟩ => ⟨S_, .i8⟩
  | .hbm, ⟨13, _⟩ => ⟨S24x256, .i8⟩
  | .hbm, ⟨14, _⟩ => ⟨S24x256, .i8⟩
  | .hbm, ⟨15, _⟩ => ⟨S128x256, .i8⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S1536x128, .f32⟩
  | .local _ .vmem, ⟨0, _⟩ => ⟨S1536x8192, .bf16⟩
  | .local _ .vmem, ⟨1, _⟩ => ⟨S128x8192, .fp8e4m3⟩
  | .local _ .vmem, ⟨2, _⟩ => ⟨S128x256, .i8⟩
  | .local _ .vmem, ⟨3, _⟩ => ⟨S1x128, .f32⟩
  | .local _ .vmem, ⟨4, _⟩ => ⟨S1x128, .f32⟩
  | .local _ .vmem, ⟨5, _⟩ => ⟨S1536x128, .f32⟩
  | .local _ .vmem, ⟨6, _⟩ => ⟨S128x8192, .bf16⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefGatesIdeal.lean ====
abbrev S2x768x8192 : Shape := ⟨3, ![2, 768, 8192]⟩
abbrev S40x8192 : Shape := ⟨2, ![40, 8192]⟩
abbrev S40x256 : Shape := ⟨2, ![40, 256]⟩
abbrev S40 : Shape := ⟨1, ![40]⟩
abbrev S1536x128 : Shape := ⟨2, ![1536, 128]⟩
abbrev S40x256x32 : Shape := ⟨3, ![40, 256, 32]⟩
abbrev S40x256x1 : Shape := ⟨3, ![40, 256, 1]⟩
abbrev S2x768x40 : Shape := ⟨3, ![2, 768, 40]⟩
abbrev S2x768x24 : Shape := ⟨3, ![2, 768, 24]⟩
abbrev S2x768x64 : Shape := ⟨3, ![2, 768, 64]⟩
abbrev S24 : Shape := ⟨1, ![24]⟩
abbrev S64 : Shape := ⟨1, ![64]⟩
abbrev S1x1x64 : Shape := ⟨3, ![1, 1, 64]⟩
abbrev S24x64x64 : Shape := ⟨3, ![24, 64, 64]⟩
abbrev S1x64x64x1 : Shape := ⟨4, ![1, 64, 64, 1]⟩
abbrev S24x1x64x64 : Shape := ⟨4, ![24, 1, 64, 64]⟩
abbrev S24x64x64x64 : Shape := ⟨4, ![24, 64, 64, 64]⟩
abbrev S1536x64 : Shape := ⟨2, ![1536, 64]⟩

abbrev nBuf : Space → Nat
  | .hbm => 8
  | .vmem => 8
  | .smem => 0
  | _ => 0

abbrev bufTy : (tb : Table) → Fin (tcTables nBuf tb) → BufTy
  | .hbm, ⟨0, _⟩ => ⟨S2x768x8192, .bf16⟩
  | .hbm, ⟨1, _⟩ => ⟨S40x8192, .fp8e4m3⟩
  | .hbm, ⟨2, _⟩ => ⟨S40x256, .i8⟩
  | .hbm, ⟨3, _⟩ => ⟨S40x8192, .fp8e4m3⟩
  | .hbm, ⟨4, _⟩ => ⟨S40x256, .i8⟩
  | .hbm, ⟨5, _⟩ => ⟨S40, .f32⟩
  | .hbm, ⟨6, _⟩ => ⟨S40, .f32⟩
  | .hbm, ⟨7, _⟩ => ⟨S1536x128, .f32⟩
  | .local _ .vmem, ⟨0, _⟩ => ⟨S2x768x8192, .bf16⟩
  | .local _ .vmem, ⟨1, _⟩ => ⟨S40x8192, .fp8e4m3⟩
  | .local _ .vmem, ⟨2, _⟩ => ⟨S40x256, .i8⟩
  | .local _ .vmem, ⟨3, _⟩ => ⟨S40x8192, .fp8e4m3⟩
  | .local _ .vmem, ⟨4, _⟩ => ⟨S40x256, .i8⟩
  | .local _ .vmem, ⟨5, _⟩ => ⟨S40, .f32⟩
  | .local _ .vmem, ⟨6, _⟩ => ⟨S40, .f32⟩
  | .local _ .vmem, ⟨7, _⟩ => ⟨S1536x128, .f32⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x768x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Mx.lean ====
/-
  THE MX WEIGHT, ONE CHUNK. A kernel turns a weight of fp8 codes and one scale byte per 32 columns into bf16 numbers 128
  columns at a time: it spreads the chunk's factors over the lanes by a gather and multiplies. `chunk_apply` reads one
  such chunk at an index, for any number of rows and of scale columns.
-/
module

public import Idealize.ShloMosaic.Lib.Pipeline.ValueKit

@[expose] public section

set_option maxRecDepth 16384

noncomputable section

namespace Cert.Mx

open Idealize.ShloMosaic

/-- The factor a scale byte stands for in the kernel: the byte as the exponent field of an f32. -/
def byteFactor (s : BitVec 8) : EReal := Ideal.ofBits .f32 (s.setWidth 32 <<< (23#32).toNat)

/-- The gather index of lane `q` in a chunk whose first factor stands at lane `k` of the factors' register. -/
theorem gatherWord (k : BitVec 32) (q : ℕ) (hq : q < 128) (hk : k.toNat + 4 ≤ 128) :
    (Scalar.select (IntOp.cmpi .slt (IntOp.addi (BitVec.ofNat 32 (q / 32)) k) 0#32)
      (IntOp.addi (IntOp.addi (BitVec.ofNat 32 (q / 32)) k) 128#32) (IntOp.addi (BitVec.ofNat 32 (q / 32)) k)).toNat % 128 = k.toNat + q / 32 := by
  have hn : (BitVec.ofNat 32 (q / 32) + k).toNat = k.toNat + q / 32 := by
    rw [BitVec.toNat_add, BitVec.toNat_ofNat]; omega
  have hs : (BitVec.ofNat 32 (q / 32) + k).slt 0#32 = false := by
    rw [BitVec.slt_eq_decide, decide_eq_false_iff_not, BitVec.toInt_eq_toNat_of_lt (by omega), hn]
    show ¬ ((k.toNat + q / 32 : ℕ) : ℤ) < 0
    omega
  show (Scalar.select (BitVec.ofBool ((BitVec.ofNat 32 (q / 32) + k).slt 0#32)) (BitVec.ofNat 32 (q / 32) + k + 128#32) (BitVec.ofNat 32 (q / 32) + k)).toNat % 128 = _
  rw [hs]
  show (BitVec.ofNat 32 (q / 32) + k).toNat % 128 = _
  omega

theorem chunk_apply {n w : ℕ} (fac : FVec Ideal ⟨2, ![n, w]⟩ .f32) (idx : IVec ⟨2, ![n, 128]⟩ 32)
    (hidx : ∀ j, idx j = BitVec.ofNat 32 ((j 1).val / 32)) (codes : FVec Ideal ⟨2, ![n, 128]⟩ .fp8e4m3) (off : ℕ) (k : BitVec 32)
    (x : Shape.Idx ⟨2, ![n, 128]⟩) (z : Shape.Idx ⟨2, ![n, w]⟩) (hk : k.toNat + 4 ≤ 128)
    (hz0 : (z 0).val = (x 0).val) (hz1 : (z 1).val = off + k.toNat + (x 1).val / 32)
    {h₁ : FTy.bits .fp8e4m3 < FTy.bits .bf16} {h₂ : FTy.bits .bf16 < FTy.bits .f32}
    {h₃ : Shape.Slices (⟨2, ![n, w]⟩ : Shape) ![0, off] ⟨2, ![n, 128]⟩} {h₄ h₅ h₆} :
    shapeCast ⟨2, ![n, 128]⟩ (mulf (extf .bf16 codes h₁) (truncf .bf16 (dynamicGather 1 (extractStridedSlice ⟨2, ![n, 128]⟩ ![0, off] fac h₃)
      (shapeCast ⟨2, ![n, 128]⟩ (shapeCast ⟨3, ![n, 128, 1]⟩ (select (cmpi .slt (addi idx (broadcast ⟨2, ![n, 128]⟩ k)) (broadcast ⟨2, ![n, 128]⟩ 0#32))
        (addi (addi idx (broadcast ⟨2, ![n, 128]⟩ k)) (broadcast ⟨2, ![n, 128]⟩ 128#32)) (addi idx (broadcast ⟨2, ![n, 128]⟩ k))) h₄) h₅)) h₂)) h₆ x
      = codes x * fac z := by
  rw [shapeCast_self, shapeCast_shapeCast]
  refine congrArg (fun v : EReal => codes x * v) (?_ : dynamicGather 1 (extractStridedSlice ⟨2, ![n, 128]⟩ ![0, off] fac h₃) _ x = fac z)
  refine extractStridedSlice_apply _ _ _ _ _ fun a => ?_
  have hx : (x 1).val < 128 := (x 1).isLt
  have hw := gatherWord k (x 1).val hx hk
  match a with
  | ⟨0, _⟩ =>
    show (z 0).val = 0 + (x 0).val
    omega
  | ⟨1, _⟩ =>
    show (z 1).val = off + (Scalar.select (IntOp.cmpi .slt (IntOp.addi (idx x) k) 0#32)
      (IntOp.addi (IntOp.addi (idx x) k) 128#32) (IntOp.addi (idx x) k)).toNat % 128
    rw [hidx, hw]
    omega

/-- The bf16 weight a kernel makes of a block's codes and scale bytes: each code times the factor of its group of 32. -/
def weight {n k w : ℕ} (hw : k = 32 * w) (codes : FVec Ideal ⟨2, ![n, k]⟩ .fp8e4m3) (scales : IVec ⟨2, ![n, w]⟩ 8) : FVec Ideal ⟨2, ![n, k]⟩ .bf16 := fun j =>
  codes j * byteFactor (scales (ValueIdx.ix2 (j 0) ⟨(j 1).val / 32, by have := ValueIdx.idx2_lt1 j; omega⟩))

/-- The chunk of columns `c …, c + 127` that a kernel stores is that block of `weight`. -/
theorem chunk_weight {n m w : ℕ} (hw : m = 32 * w) (X : FVec Ideal ⟨2, ![n, m]⟩ .fp8e4m3) (scales : IVec ⟨2, ![n, w]⟩ 8)
    (fac : FVec Ideal ⟨2, ![n, w]⟩ .f32) (hfac : ∀ j, fac j = byteFactor (scales j)) (idx : IVec ⟨2, ![n, 128]⟩ 32)
    (hidx : ∀ j, idx j = BitVec.ofNat 32 ((j 1).val / 32)) (off c : ℕ) (k : BitVec 32)
    (x : Shape.Idx ⟨2, ![n, 128]⟩) (y : Shape.Idx ⟨2, ![n, m]⟩) (hk : k.toNat + 4 ≤ 128) (hc : c = 32 * (off + k.toNat))
    (hy0 : (y 0).val = (x 0).val) (hy1 : (y 1).val = c + (x 1).val)
    {h₁ : FTy.bits .fp8e4m3 < FTy.bits .bf16} {h₂ : FTy.bits .bf16 < FTy.bits .f32}
    {h₃ : Shape.Slices (⟨2, ![n, w]⟩ : Shape) ![0, off] ⟨2, ![n, 128]⟩} {h₄ h₅ h₆} {inb} :
    shapeCast ⟨2, ![n, 128]⟩ (mulf (extf .bf16 (View.ld (Val := Elt Ideal) (e' := .fp8e4m3) X (Rect.unit (s := ⟨2, ![n, m]⟩) ![0, c] ![n, 128] inb)) h₁)
      (truncf .bf16 (dynamicGather 1 (extractStridedSlice ⟨2, ![n, 128]⟩ ![0, off] fac h₃)
      (shapeCast ⟨2, ![n, 128]⟩ (shapeCast ⟨3, ![n, 128, 1]⟩ (select (cmpi .slt (addi idx (broadcast ⟨2, ![n, 128]⟩ k)) (broadcast ⟨2, ![n, 128]⟩ 0#32))
        (addi (addi idx (broadcast ⟨2, ![n, 128]⟩ k)) (broadcast ⟨2, ![n, 128]⟩ 128#32)) (addi idx (broadcast ⟨2, ![n, 128]⟩ k))) h₄) h₅)) h₂)) h₆ x
      = weight hw X scales y := by
  rw [chunk_apply fac idx hidx _ off k x (ValueIdx.ix2 (y 0) ⟨(y 1).val / 32, by have := ValueIdx.idx2_lt1 y; omega⟩) hk hy0
    (by show (y 1).val / 32 = off + k.toNat + (x 1).val / 32; omega), hfac]
  unfold weight
  refine congrArg (fun v : EReal => v * _) (?_ : X _ = X y)
  refine congrArg X (funext fun a => Fin.ext ?_)
  match a with
  | ⟨0, _⟩ => show 0 + 1 * (x 0).val = (y 0).val; omega
  | ⟨1, _⟩ => show c + 1 * (x 1).val = (y 1).val; omega

/-- A load of a whole buffer, after stores that together leave `G` in it, reads `G`. -/
theorem readCov_whole {Val : EltTy → Type} [∀ e, Nonempty (Val e)] {sig : RefSig} {κ : Kind} {sp : Space} {S : Shape} {e : EltTy} (v : View sig κ sp S e)
    (L : List (View.Piece Val S e)) (G : S.Idx → Val e) {off : Fin S.rank → ℕ} {inb : ∀ a, off a + S.size a ≤ S.size a} (h0 : ∀ a, off a = 0)
    (h : ∀ y, View.canon L y = G y) : v.readCov L (Rect.unit off S.size inb).toLoadRect = G := by
  rw [View.readCov_eq_canon']
  funext j
  rw [h]
  refine congrArg G (funext fun a => Fin.ext ?_)
  show off a + 1 * (j a).val = (j a).val
  rw [h0]; omega

end Cert.Mx
-- ==== Proof.Spec.lean ====
/-
  THE MATHEMATICS OF A PROJECTION, for any width `N` of the output: the linear layer, the three rows of history ahead of
  it, and the causal convolution of four taps with its gate.
-/
module

public import proofs.«01_k».proof.Proof.Mx
public import Idealize.ShloMosaic.Lib.MatmulPlain

@[expose] public section

set_option maxRecDepth 16384

noncomputable section

namespace Cert.Spec

open Idealize.ShloMosaic
open scoped BigOperators

/-- Row `r` of `X` against row `c` of `W`: the linear layer's number at (r, c). -/
def lin {M K N : ℕ} (X : FVec Ideal ⟨2, ![M, K]⟩ .bf16) (W : FVec Ideal ⟨2, ![N, K]⟩ .bf16) (r : Fin M) (c : Fin N) : EReal :=
  ∑ k : Fin K, X (ValueIdx.ix2 r k) * W (ValueIdx.ix2 c k)

/-- A kernel's product with the transposed right operand, onto zeros, is the linear layer. -/
theorem matmul_eq_lin {M K N : ℕ} (X : FVec Ideal ⟨2, ![M, K]⟩ .bf16) (W : FVec Ideal ⟨2, ![N, K]⟩ .bf16) (j : Shape.Idx ⟨2, ![M, N]⟩) :
    matmul (DotDims.transposedRhs M K N) none X W (constant (F := Ideal) ⟨2, ![M, N]⟩ .f32 0x00000000#32) j = lin X W (j 0) (j 1) := by
  rw [ValueIdx.eq_ix2 j]
  refine (Ideal.matmul_transposedRhs_apply none X W _ (j 0) (j 1)).trans ?_
  show Ideal.ofBits .f32 0x00000000#32 + _ = _
  rw [Ideal.ofBits_zero_f32, zero_add]
  rfl

/-- Batch `b`'s sequence with its three rows of history ahead: rows 0, 1, 2 are the history's, row `i + 3` is token `i`. -/
def hist {N : ℕ} (state : FVec Ideal ⟨3, ![2, 3, N]⟩ .bf16) (L : Fin 1536 → Fin N → EReal) (b : Fin 2) (i : Fin 771) (c : Fin N) : EReal :=
  if h : i.val < 3 then state (ValueIdx.ix3 b ⟨i.val, h⟩ c) else L ⟨768 * b.val + (i.val - 3), by omega⟩ c

/-- The gated causal convolution at row `r = 768 b + t`, column `c`: taps on rows t, …, t + 3 of the sequence with history. -/
def conv {N : ℕ} (state : FVec Ideal ⟨3, ![2, 3, N]⟩ .bf16) (L : Fin 1536 → Fin N → EReal) (tap : Fin 4 → Fin N → EReal) (r : Fin 1536) (c : Fin N) : EReal :=
  let b : Fin 2 := ⟨r.val / 768, by omega⟩
  let x (i : Fin 4) : EReal := hist state L b ⟨r.val % 768 + i.val, by omega⟩ c
  let v := ((tap 0 c * x 0 + tap 1 c * x 1) + tap 2 c * x 2) + tap 3 c * x 3
  v * Ideal.logistic v

/-- A row of history. -/
theorem hist_lt {N : ℕ} (state : FVec Ideal ⟨3, ![2, 3, N]⟩ .bf16) (L : Fin 1536 → Fin N → EReal) (b : Fin 2) (i : Fin 771) (c : Fin N) (m : ℕ) (hm : m = i.val) (h : m < 3) :
    hist state L b i c = state (ValueIdx.ix3 b ⟨m, h⟩ c) := by
  subst hm
  exact dif_pos h

/-- A row past the history is a token's. -/
theorem hist_ge {N : ℕ} (state : FVec Ideal ⟨3, ![2, 3, N]⟩ .bf16) (L : Fin 1536 → Fin N → EReal) (b : Fin 2) (i : Fin 771) (c : Fin N) (q : Fin 1536) (h : ¬ i.val < 3) (hq : q.val = 768 * b.val + (i.val - 3)) :
    hist state L b i c = L q c := by
  refine (dif_neg h).trans (congrArg (fun z => L z c) (Fin.ext hq.symm))

/-- The convolution at row `768 b + t` from the four rows it reads. -/
theorem conv_of {N : ℕ} (state : FVec Ideal ⟨3, ![2, 3, N]⟩ .bf16) (L : Fin 1536 → Fin N → EReal) (tap : Fin 4 → Fin N → EReal) (r : Fin 1536) (c : Fin N)
    (b : Fin 2) (t : ℕ) (ht : t < 768) (hr : r.val = 768 * b.val + t) (e0 e1 e2 e3 : EReal)
    (h0 : e0 = hist state L b ⟨t, by omega⟩ c) (h1 : e1 = hist state L b ⟨t + 1, by omega⟩ c) (h2 : e2 = hist state L b ⟨t + 2, by omega⟩ c) (h3 : e3 = hist state L b ⟨t + 3, by omega⟩ c) :
    conv state L tap r c = (((tap 0 c * e0 + tap 1 c * e1) + tap 2 c * e2) + tap 3 c * e3) * Ideal.logistic (((tap 0 c * e0 + tap 1 c * e1) + tap 2 c * e2) + tap 3 c * e3) := by
  have hb : (⟨r.val / 768, by omega⟩ : Fin 2) = b := Fin.ext (by show r.val / 768 = b.val; omega)
  have hx (i : Fin 4) : (⟨r.val % 768 + i.val, by omega⟩ : Fin 771) = ⟨t + i.val, by omega⟩ := Fin.ext (by show r.val % 768 + i.val = t + i.val; omega)
  subst h0 h1 h2 h3
  unfold conv
  simp only [hb, hx]
  rfl

/-- The row of batch `b`'s token 765 + `i`. -/
def tailRow (b : Fin 2) (i : Fin 3) : Fin 1536 := ⟨768 * b.val + 765 + i.val, by omega⟩

/-- The last three rows of each batch. -/
def tail {N : ℕ} (L : Fin 1536 → Fin N → EReal) (b : Fin 2) (i : Fin 3) (c : Fin N) : EReal := L (tailRow b i) c

theorem ext2 {a b : ℕ} {x y : Shape.Idx ⟨2, ![a, b]⟩} (h0 : (x 0).val = (y 0).val) (h1 : (x 1).val = (y 1).val) : x = y := by
  funext k
  fin_cases k
  · exact Fin.ext h0
  · exact Fin.ext h1

theorem ext3 {a b c : ℕ} {x y : Shape.Idx ⟨3, ![a, b, c]⟩} (h0 : (x 0).val = (y 0).val) (h1 : (x 1).val = (y 1).val) (h2 : (x 2).val = (y 2).val) : x = y := by
  funext k
  fin_cases k
  · exact Fin.ext h0
  · exact Fin.ext h1
  · exact Fin.ext h2

/-- The linear layer at an entry reads only one row of the activations and one of the weights. -/
theorem lin_congr {M M' K N N' : ℕ} (X : FVec Ideal ⟨2, ![M, K]⟩ .bf16) (X' : FVec Ideal ⟨2, ![M', K]⟩ .bf16) (W : FVec Ideal ⟨2, ![N, K]⟩ .bf16) (W' : FVec Ideal ⟨2, ![N', K]⟩ .bf16) (r : Fin M) (r' : Fin M') (c : Fin N) (c' : Fin N')
    (hX : ∀ k, X (ValueIdx.ix2 r k) = X' (ValueIdx.ix2 r' k)) (hW : ∀ k, W (ValueIdx.ix2 c k) = W' (ValueIdx.ix2 c' k)) : lin X W r c = lin X' W' r' c' :=
  Finset.sum_congr rfl fun k _ => congrArg₂ (fun u v : EReal => u * v) (hX k) (hW k)

/-- The weights at a row read only that row of the codes and of the scales. -/
theorem weight_congr {n n' k w : ℕ} (hw : k = 32 * w) (codes : FVec Ideal ⟨2, ![n, k]⟩ .fp8e4m3) (codes' : FVec Ideal ⟨2, ![n', k]⟩ .fp8e4m3) (scales : IVec ⟨2, ![n, w]⟩ 8) (scales' : IVec ⟨2, ![n', w]⟩ 8)
    (c : Fin n) (c' : Fin n') (q : Fin k) (hc : codes (ValueIdx.ix2 c q) = codes' (ValueIdx.ix2 c' q)) (hs : ∀ b, scales (ValueIdx.ix2 c b) = scales' (ValueIdx.ix2 c' b)) :
    Mx.weight hw codes scales (ValueIdx.ix2 c q) = Mx.weight hw codes' scales' (ValueIdx.ix2 c' q) :=
  congrArg₂ (fun (u v : EReal) => u * v) hc (congrArg Mx.byteFactor (hs _))

/-- The convolution at a column reads only that column. -/
theorem conv_congr {N N' : ℕ} (state : FVec Ideal ⟨3, ![2, 3, N]⟩ .bf16) (state' : FVec Ideal ⟨3, ![2, 3, N']⟩ .bf16) (L : Fin 1536 → Fin N → EReal) (L' : Fin 1536 → Fin N' → EReal)
    (tap : Fin 4 → Fin N → EReal) (tap' : Fin 4 → Fin N' → EReal) (r r' : Fin 1536) (c : Fin N) (c' : Fin N') (hr : r = r')
    (hs : ∀ b i, state (ValueIdx.ix3 b i c) = state' (ValueIdx.ix3 b i c')) (hL : ∀ q, L q c = L' q c') (ht : ∀ i, tap i c = tap' i c') : conv state L tap r c = conv state' L' tap' r' c' := by
  subst hr
  have hx (b : Fin 2) (i : Fin 771) : hist state L b i c = hist state' L' b i c' := by
    unfold hist
    simp only [hs, hL]
  unfold conv
  simp only [hx, ht]

end Cert.Spec
-- ==== Proof.BlockQ.lean ====
module

public import proofs.«01_k».proof.Proof.Gen.ProjQIdeal.Value
public import Idealize.ShloMosaic.Lib.Pipeline.ValueKit
public import Idealize.ShloMosaic.Lib.Pipeline.ReadBack
public import proofs.«01_k».proof.Proof.Spec

@[expose] public section

set_option maxRecDepth 16384

noncomputable section

namespace Cert.ProjQIdeal.Block

open Cert.ProjQIdeal Cert.ProjQIdeal.Gen Idealize.ShloMosaic Idealize.ShloMosaic.TcCoe Idealize.ShloMosaic.Tactic Idealize.SL.Sem
open Idealize.ShloMosaic.Pipeline (Dat)

/-- The lane's group of 32 columns, as the kernel computes it. -/
theorem group_apply (j : S512x128.Idx) : k0_pay3 j = BitVec.ofNat 32 ((j 1).val / 32) := by
  have h : ∀ q : Fin 128, k0_pay3 (ValueIdx.ix2 (0 : Fin 512) q) = BitVec.ofNat 32 (q.val / 32) := by decide +kernel
  exact h (j 1)

/-- The linear layer of one block of columns, as the kernel keeps it. -/
theorem proj_apply (x : Vec Ideal S1536x8192 .bf16) (W : Vec Ideal S512x8192 .bf16) (j : S1536x512.Idx) : k0_pay115 (F := Ideal) x W j = Spec.lin x W (j 0) (j 1) := by
  show matmul (φ₂ := .bf16) (DotDims.transposedRhs 1536 8192 512) none (shapeCast S1536x8192 x shapeCasts_S1536x8192_S1536x8192) W (constant (F := Ideal) S1536x512 .f32 0x00000000#32) j = _
  rw [shapeCast_self]
  exact Spec.matmul_eq_lin x W j

/-- Batch 0's last three rows. -/
theorem tail0 (x0 : Vec Ideal S1536x8192 .bf16) (W : Vec Ideal S512x8192 .bf16) (x : S1x3x512.Idx) : k0_pay117 x0 W x = k0_pay115 x0 W (ValueIdx.ix2 ⟨765 + (x 1).val, by have : (x 1).val < 3 := (x 1).isLt; omega⟩ (x 2)) := by
  unfold k0_pay117
  generalize k0_pay115 x0 W = P
  pointwise
  rfl

/-- Batch 1's last three rows. -/
theorem tail1 (P : FVec Ideal S1536x512 .bf16) (x : S1x3x512.Idx) : k0_pay121 P x = P (ValueIdx.ix2 ⟨1533 + (x 1).val, by have : (x 1).val < 3 := (x 1).isLt; omega⟩ (x 2)) := by
  unfold k0_pay121
  pointwise
  rfl

/-- The gated convolution of batch 0's rows. -/
theorem conv0 (x0 : Vec Ideal S1536x8192 .bf16) (W : Vec Ideal S512x8192 .bf16) (x3 : Vec Ideal S2x3x512 .bf16) (x4 : Vec Ideal S4x512 .f32) (x : S768x512.Idx) :
   k0_pay120 (k0_pay116 x4)
      (k0_pay118 x0 W (View.ld x3 (Rect.unit ![0, 0, 0] ![1, 3, 512] inb_S2x3x512_S1x3x512_0_0_0)))
      (k0_pay119 x0 W x4 (View.ld x3 (Rect.unit ![0, 0, 0] ![1, 3, 512] inb_S2x3x512_S1x3x512_0_0_0)))
      x = Spec.conv x3 (Spec.lin x0 W) (fun i c => x4 (ValueIdx.ix2 i c)) ⟨(x 0).val, by have : (x 0).val < 768 := (x 0).isLt; omega⟩ (x 1) := by
  unfold k0_pay119 k0_pay120 k0_pay118 k0_pay116
  simp only [shapeCast_self]
  have hP := proj_apply x0 W
  generalize k0_pay115 x0 W = P at hP ⊢
  pointwise
  refine (Spec.conv_of x3 (Spec.lin x0 W) (fun i c => x4 (ValueIdx.ix2 i c)) _ (x 1) 0 (x 0).val (x 0).isLt (by simp) _ _ _ _ ?_ ?_ ?_ ?_).symm
  case refine_4 =>
    refine (hP _).trans (Spec.hist_ge _ _ _ _ _ _ ?_ ?_).symm
    · simp
    · simp
  all_goals
    split
    · exact (Spec.hist_lt _ _ _ _ _ _ (by first | rfl | exact Nat.add_comm _ _) (by assumption)).symm
    · refine (hP _).trans (Spec.hist_ge _ _ _ _ _ _ ?_ ?_).symm
      · dsimp only; omega
      · simp; try omega

/-- The gated convolution of batch 1's rows. -/
theorem conv1 (x0 : Vec Ideal S1536x8192 .bf16) (W : Vec Ideal S512x8192 .bf16) (x3 : Vec Ideal S2x3x512 .bf16) (x4 : Vec Ideal S4x512 .f32) (x : S768x512.Idx) :
   k0_pay1 (k0_pay122 (k0_pay115 x0 W) (k0_pay116 x4) (View.ld x3 (Rect.unit ![1, 0, 0] ![1, 3, 512] inb_S2x3x512_S1x3x512_1_0_0))) x = Spec.conv x3 (Spec.lin x0 W) (fun i c => x4 (ValueIdx.ix2 i c)) ⟨768 + (x 0).val, by have : (x 0).val < 768 := (x 0).isLt; omega⟩ (x 1) := by
  unfold k0_pay1 k0_pay122 k0_pay116
  simp only [shapeCast_self]
  have hP := proj_apply x0 W
  generalize k0_pay115 x0 W = P at hP ⊢
  pointwise
  refine (Spec.conv_of x3 (Spec.lin x0 W) (fun i c => x4 (ValueIdx.ix2 i c)) _ (x 1) 1 (x 0).val (x 0).isLt (by simp) _ _ _ _ ?_ ?_ ?_ ?_).symm
  case refine_4 =>
    refine (hP _).trans (Spec.hist_ge _ _ _ _ _ _ ?_ ?_).symm
    · simp
    · simp
  all_goals
    split
    · exact (Spec.hist_lt _ _ _ _ _ _ (by first | rfl | exact Nat.add_comm _ _) (by assumption)).symm
    · refine (hP _).trans (Spec.hist_ge _ _ _ _ _ _ ?_ ?_).symm
      · dsimp only; omega
      · simp; try omega

/-- What a block of the first output holds: the gated convolution. -/
theorem out5_eq (c : Dev nD) (i : grid0.Coords) (arg1 : Memref sig .tc .vmem S1536x8192 .bf16) (harg1 : arg1.IsWhole) (arg2 : Memref sig .tc .vmem S512x8192 .fp8e4m3) (harg2 : arg2.IsWhole) (arg3 : Memref sig .tc .vmem S512x256 .i8) (harg3 : arg3.IsWhole) (arg4 : Memref sig .tc .vmem S2x3x512 .bf16) (harg4 : arg4.IsWhole) (arg5 : Memref sig .tc .vmem S4x512 .f32) (harg5 : arg5.IsWhole) (arg6 : Memref sig .tc .vmem S1536x512 .bf16) (harg6 : arg6.IsWhole) (arg7 : Memref sig .tc .vmem S2x3x512 .bf16) (harg7 : arg7.IsWhole) (arg8 : Memref sig .tc .vmem S512x8192 .bf16) (harg8 : arg8.IsWhole)
    (x0 : Vec Ideal S1536x8192 .bf16) (x1 : Vec Ideal S512x8192 .fp8e4m3) (x2 : Vec Ideal S512x256 .i8) (x3 : Vec Ideal S2x3x512 .bf16) (x4 : Vec Ideal S4x512 .f32) (y : S1536x512.Idx) :
    out0_A_5 (F := Ideal) c i arg1 harg1 arg2 harg2 arg3 harg3 arg4 harg4 arg5 harg5 arg6 harg6 arg7 harg7 arg8 harg8 x0 x1 x2 x3 x4 y = Spec.conv x3 (Spec.lin x0 (Mx.weight (by decide) x1 x2)) (fun i c => x4 (ValueIdx.ix2 i c)) (y 0) (y 1) := by
  frame_out
  rw [Mx.readCov_whole _ _ (Mx.weight (by decide) x1 x2) (by decide) ?h]
  case h =>
    intro y
    canon_tiles x h
    all_goals
      open_payloads
      refine Mx.chunk_weight _ x1 x2 (k0_pay2 x2) (fun _ => rfl) k0_pay3 group_apply _ _ _ x y ?_ ?_ ?_ ?_
      all_goals first | omega | decide
  canon_tiles x h
  · rw [conv1]
    exact congrArg₂ (Spec.conv _ _ _) (Fin.ext h0.symm) (Fin.ext h1.symm)
  · rw [conv0]
    exact congrArg₂ (Spec.conv _ _ _) (Fin.ext h0.symm) (Fin.ext h1.symm)

/-- What a block of the second output holds: the last three rows of each batch's linear layer. -/
theorem out6_eq (c : Dev nD) (i : grid0.Coords) (arg1 : Memref sig .tc .vmem S1536x8192 .bf16) (harg1 : arg1.IsWhole) (arg2 : Memref sig .tc .vmem S512x8192 .fp8e4m3) (harg2 : arg2.IsWhole) (arg3 : Memref sig .tc .vmem S512x256 .i8) (harg3 : arg3.IsWhole) (arg4 : Memref sig .tc .vmem S2x3x512 .bf16) (harg4 : arg4.IsWhole) (arg5 : Memref sig .tc .vmem S4x512 .f32) (harg5 : arg5.IsWhole) (arg6 : Memref sig .tc .vmem S1536x512 .bf16) (harg6 : arg6.IsWhole) (arg7 : Memref sig .tc .vmem S2x3x512 .bf16) (harg7 : arg7.IsWhole) (arg8 : Memref sig .tc .vmem S512x8192 .bf16) (harg8 : arg8.IsWhole)
    (x0 : Vec Ideal S1536x8192 .bf16) (x1 : Vec Ideal S512x8192 .fp8e4m3) (x2 : Vec Ideal S512x256 .i8) (x3 : Vec Ideal S2x3x512 .bf16) (x4 : Vec Ideal S4x512 .f32) (y : S2x3x512.Idx) :
    out0_A_6 (F := Ideal) c i arg1 harg1 arg2 harg2 arg3 harg3 arg4 harg4 arg5 harg5 arg6 harg6 arg7 harg7 arg8 harg8 x0 x1 x2 x3 x4 y = Spec.tail (Spec.lin x0 (Mx.weight (by decide) x1 x2)) (y 0) (y 1) (y 2) := by
  frame_out
  rw [Mx.readCov_whole _ _ (Mx.weight (by decide) x1 x2) (by decide) ?h]
  case h =>
    intro y
    canon_tiles x h
    all_goals
      open_payloads
      refine Mx.chunk_weight _ x1 x2 (k0_pay2 x2) (fun _ => rfl) k0_pay3 group_apply _ _ _ x y ?_ ?_ ?_ ?_
      all_goals first | omega | decide
  canon_tiles x h
  · rw [tail1, proj_apply]
    exact congrArg₂ (Spec.lin x0 _) (Fin.ext (by dsimp only [Spec.tailRow]; omega)) (Fin.ext h2.symm)
  · rw [tail0, proj_apply]
    exact congrArg₂ (Spec.lin x0 _) (Fin.ext (by dsimp only [Spec.tailRow]; omega)) (Fin.ext h2.symm)

end Cert.ProjQIdeal.Block
-- ==== Proof.ArraysQ.lean ====
module

public import proofs.«01_k».proof.Proof.Gen.ProjQIdeal.Value
public import Idealize.ShloMosaic.Lib.Pipeline.ValueKit
public import Idealize.ShloMosaic.Lib.Pipeline.ReadBack
public import proofs.«01_k».proof.Proof.BlockQ

@[expose] public section

set_option maxRecDepth 16384

noncomputable section

namespace Cert.ProjQIdeal.Arrays

open Cert.ProjQIdeal Cert.ProjQIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The activations the region finds: the launched ones, two batches of rows one under the other. -/
theorem V_main_v0 (c : Dev nD) : V m c main_v0 = shapeCast S1536x8192 (m ((c : Thread nD τ).loc main_arg0)) shapeCasts_S2x768x8192_S1536x8192 := by
  show StableHlo.after hostOps0 _ (Proc.devRef .tc main_v0) = _
  after_results
  rfl

/-- The taps the region finds: the launched ones, transposed. -/
theorem V_main_v1 (c : Dev nD) : V m c main_v1 = transpose S4x5120 [1, 0] (m ((c : Thread nD τ).loc main_arg4)) transposes_S5120x4_S4x5120_1_0 := by
  show StableHlo.after hostOps0 _ (Proc.devRef .tc main_v1) = _
  after_results

theorem taps_at (x : Vec Ideal S5120x4 .f32) (i : S4x5120.Idx) : transpose S4x5120 [1, 0] x transposes_S5120x4_S4x5120_1_0 i = x (ValueIdx.ix2 (i 1) (i 0)) := by
  pointwise
  rfl

theorem e0 : ∀ t : Fin cfg0.N, win0_0.index t = ![0, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0, t.val] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![0, 0, t.val] := (by decide +kernel : ∀ t : Fin grid0.N, _)

/-! Where a block's index lies in its array. -/

theorem p0_0 (t : Fin cfg0.N) (y : S1536x8192.Idx) : ((win0_0.blk t).view.emb y 0).val = (y 0).val := by blk_simp [e0]
theorem p0_1 (t : Fin cfg0.N) (y : S1536x8192.Idx) : ((win0_0.blk t).view.emb y 1).val = (y 1).val := by blk_simp [e0]
theorem p1_0 (t : Fin cfg0.N) (y : S512x8192.Idx) : ((win0_1.blk t).view.emb y 0).val = t.val * 512 + (y 0).val := by blk_simp [e1]
theorem p1_1 (t : Fin cfg0.N) (y : S512x8192.Idx) : ((win0_1.blk t).view.emb y 1).val = (y 1).val := by blk_simp [e1]
theorem p2_0 (t : Fin cfg0.N) (y : S512x256.Idx) : ((win0_2.blk t).view.emb y 0).val = t.val * 512 + (y 0).val := by blk_simp [e2]
theorem p2_1 (t : Fin cfg0.N) (y : S512x256.Idx) : ((win0_2.blk t).view.emb y 1).val = (y 1).val := by blk_simp [e2]
theorem p3_0 (t : Fin cfg0.N) (y : S2x3x512.Idx) : ((win0_3.blk t).view.emb y 0).val = (y 0).val := by blk_simp [e3]
theorem p3_1 (t : Fin cfg0.N) (y : S2x3x512.Idx) : ((win0_3.blk t).view.emb y 1).val = (y 1).val := by blk_simp [e3]
theorem p3_2 (t : Fin cfg0.N) (y : S2x3x512.Idx) : ((win0_3.blk t).view.emb y 2).val = t.val * 512 + (y 2).val := by blk_simp [e3]
theorem p4_0 (t : Fin cfg0.N) (y : S4x512.Idx) : ((win0_4.blk t).view.emb y 0).val = (y 0).val := by blk_simp [e4]
theorem p4_1 (t : Fin cfg0.N) (y : S4x512.Idx) : ((win0_4.blk t).view.emb y 1).val = t.val * 512 + (y 1).val := by blk_simp [e4]
theorem p5_0 (t : Fin cfg0.N) (y : S1536x512.Idx) : ((win0_5.blk t).view.emb y 0).val = (y 0).val := by blk_simp [e5]
theorem p5_1 (t : Fin cfg0.N) (y : S1536x512.Idx) : ((win0_5.blk t).view.emb y 1).val = t.val * 512 + (y 1).val := by blk_simp [e5]
theorem p6_0 (t : Fin cfg0.N) (y : S2x3x512.Idx) : ((win0_6.blk t).view.emb y 0).val = (y 0).val := by blk_simp [e6]
theorem p6_1 (t : Fin cfg0.N) (y : S2x3x512.Idx) : ((win0_6.blk t).view.emb y 1).val = (y 1).val := by blk_simp [e6]
theorem p6_2 (t : Fin cfg0.N) (y : S2x3x512.Idx) : ((win0_6.blk t).view.emb y 2).val = t.val * 512 + (y 2).val := by blk_simp [e6]

/-- The linear layer of the launched arrays. -/
def lin (c : Dev nD) : Fin 1536 → Fin 5120 → EReal :=
  Spec.lin (shapeCast S1536x8192 (m ((c : Thread nD τ).loc main_arg0)) shapeCasts_S2x768x8192_S1536x8192) (Mx.weight (by decide) (m ((c : Thread nD τ).loc main_arg1)) (m ((c : Thread nD τ).loc main_arg2)))

/-- The linear layer of point `t`'s blocks is 512 columns of the launched arrays'. -/
theorem lin_block (c : Dev nD) (t : Fin cfg0.N) (r : Fin 1536) (q : Fin 512) (q' : Fin 5120) (hq : q'.val = t.val * 512 + q.val) :
    Spec.lin (iblk m c 0 t) (Mx.weight (by decide) (iblk m c 1 t) (iblk m c 2 t)) r q = lin m c r q' := by
  refine Spec.lin_congr _ _ _ _ _ _ _ _ (fun k => ?_) (fun k => Spec.weight_congr _ _ _ _ _ _ _ _ ?_ fun b => ?_)
  · blk_simp [iblk]
    rw [V_main_v0]
    exact congrArg _ (Spec.ext2 (p0_0 t _) (p0_1 t _))
  · blk_simp [iblk]
    rw [V_main_arg1]
    exact congrArg _ (Spec.ext2 ((p1_0 t _).trans hq.symm) (p1_1 t _))
  · blk_simp [iblk]
    rw [V_main_arg2]
    exact congrArg _ (Spec.ext2 ((p2_0 t _).trans hq.symm) (p2_1 t _))

/-- The first output after the run. -/
theorem final5 (c : Dev nD) : (dats m 0 c).arrAt 5 cfg0.N = fun j => Spec.conv (m ((c : Thread nD τ).loc main_arg3)) (lin m c) (fun i q => m ((c : Thread nD τ).loc main_arg4) (ValueIdx.ix2 q i)) (j 0) (j 1) := by
  refine (dats m 0 c).arrAt_eq_of_covers 5 _ (by decide +kernel) fun t hf y => ?_
  blk_simp
  rw [after0_5]
  unfold outsAt0
  dsimp only
  rw [Block.out5_eq]
  have h0 : ((win0_5.blk t).view.emb y 0).val = (y 0).val := p5_0 t y
  have h1 : ((win0_5.blk t).view.emb y 1).val = t.val * 512 + (y 1).val := p5_1 t y
  refine Spec.conv_congr _ _ _ _ _ _ _ _ _ _ (Fin.ext h0.symm) (fun b i => ?_) (fun q => lin_block m c t q _ _ h1) fun i => ?_
  · blk_simp [iblk]
    rw [V_main_arg3]
    exact congrArg _ (Spec.ext3 (p3_0 t _) (p3_1 t _) ((p3_2 t _).trans h1.symm))
  · blk_simp [iblk]
    rw [V_main_v1, taps_at]
    exact congrArg _ (Spec.ext2 ((p4_1 t _).trans h1.symm) (p4_0 t _))

/-- The second output after the run. -/
theorem final6 (c : Dev nD) : (dats m 0 c).arrAt 6 cfg0.N = fun j => Spec.tail (lin m c) (j 0) (j 1) (j 2) := by
  refine (dats m 0 c).arrAt_eq_of_covers 6 _ (by decide +kernel) fun t hf y => ?_
  blk_simp
  rw [after0_6]
  unfold outsAt0
  dsimp only
  rw [Block.out6_eq]
  have h0 : ((win0_6.blk t).view.emb y 0).val = (y 0).val := p6_0 t y
  have h1 : ((win0_6.blk t).view.emb y 1).val = (y 1).val := p6_1 t y
  have h2 : ((win0_6.blk t).view.emb y 2).val = t.val * 512 + (y 2).val := p6_2 t y
  have hr : Spec.tailRow (y 0) (y 1) = Spec.tailRow ((win0_6.blk t).view.emb y 0) ((win0_6.blk t).view.emb y 1) := congrArg₂ Spec.tailRow (Fin.ext h0.symm) (Fin.ext h1.symm)
  refine (lin_block m c t _ _ _ h2).trans ?_
  exact congrArg (fun r => lin m c r _) hr

end Cert.ProjQIdeal.Arrays
-- ==== Proof.Scale.lean ====
module

public import proofs.«01_k».proof.Proof.Mx
public import Idealize.ShloMosaic.Lib.Pipeline.ValueKit

@[expose] public section

set_option maxRecDepth 16384

noncomputable section

namespace Cert.Scale

open Idealize.ShloMosaic

/-- A shared exponent byte that neither format treats apart: not the zero byte, not the one of all ones. -/
def Normal (s : BitVec 8) : Prop := s ≠ 0#8 ∧ s ≠ 255#8

/-- What the precondition computes of a byte says that it is normal. -/
theorem normal_of_flag : ∀ s : BitVec 8, IntOp.andi (IntOp.cmpi .ne s 0#8) (IntOp.cmpi .ne s 255#8) = 1#1 → Normal s := by
  unfold Normal
  decide +kernel

/-- The byte moved to the exponent field: positive, no fraction, the byte as exponent. -/
theorem fields : ∀ s : BitVec 8, Normal s →
    ((s.setWidth 32 <<< (23#32).toNat : BitVec 32).extractLsb' (8 + 23) 1 == 1#1) = false
    ∧ ((s.setWidth 32 <<< (23#32).toNat : BitVec 32).extractLsb' 23 8).toNat = s.toNat
    ∧ ((s.setWidth 32 <<< (23#32).toNat : BitVec 32).extractLsb' 0 23).toNat = 0
    ∧ s.toNat ≠ 255 ∧ s.toNat ≠ 0 ∧ (IntOp.subi (BitVec.setWidth 32 s) 127#32).toInt = (s.toNat : ℤ) - 127 := by
  unfold Normal
  decide +kernel

/-- A float without a fraction, its exponent field `n` neither all zeros nor all ones: two to `n` less 127. -/
theorem ieee_eq (b : BitVec 32) (n : ℕ) (h1 : (b.extractLsb' (8 + 23) 1 == 1#1) = false) (h2 : (b.extractLsb' 23 8).toNat = n) (h3 : (b.extractLsb' 0 23).toNat = 0) (h4 : n ≠ 255) (h5 : n ≠ 0) :
    Ideal.ieee 8 23 b = (((2 : ℝ) ^ ((n : ℤ) - 127) : ℝ) : EReal) := by
  unfold Ideal.ieee
  simp only [h1, h2, h3]
  rw [if_neg (show ¬ n = 2 ^ 8 - 1 from h4), if_neg h5]
  refine congrArg ((↑) : ℝ → EReal) ?_
  rw [if_neg (by decide), one_mul, show ((2 ^ 23 + 0 : ℕ) : ℝ) = (2 : ℝ) ^ (23 : ℤ) by norm_num, ← zpow_add₀ (by norm_num)]
  congr 1
  norm_num

/-- The kernel's factor — the byte as a float's exponent — is the reference's, two to the byte less 127. -/
theorem byteFactor_eq (s : BitVec 8) (h : Normal s) : Mx.byteFactor s = Ideal.exp2 (((IntOp.subi (BitVec.setWidth 32 s) 127#32).toInt : ℝ) : EReal) := by
  obtain ⟨h1, h2, h3, h4, h5, h6⟩ := fields s h
  refine (ieee_eq _ _ h1 h2 h3 h4 h5).trans ?_
  rw [h6, Ideal.exp2_coe, Real.rpow_eq_pow, Real.rpow_intCast]

end Cert.Scale
-- ==== Proof.ReadQ.lean ====
module

public import proofs.«01_k».proof.Proof.Gen.RefQIdeal.Value
public import Idealize.ShloMosaic.Lib.Pipeline.ValueKit
public import Idealize.ShloMosaic.Lib.Pipeline.ReadBack
public import proofs.«01_k».proof.Proof.Spec
public import proofs.«01_k».proof.Proof.Scale

@[expose] public section

set_option maxRecDepth 16384

noncomputable section

namespace Cert.RefQIdeal.Read

open Cert.RefQIdeal Cert.RefQIdeal.Gen Idealize.ShloMosaic Idealize.ShloMosaic.TcCoe Idealize.ShloMosaic.Tactic Idealize.SL.Sem
open Idealize.ShloMosaic.Pipeline (Dat)

/-- The linear layer in the kernel's spelling: the rows of both batches one under the other. -/
def lin (a0 : Vec Ideal S2x768x8192 .bf16) (a1 : Vec Ideal S5120x8192 .fp8e4m3) (a2 : Vec Ideal S5120x256 .i8) : Fin 1536 → Fin 5120 → EReal :=
  Spec.lin (shapeCast ⟨2, ![1536, 8192]⟩ a0 (by decide)) (Mx.weight (by decide) a1 a2)

theorem rows_at (a0 : Vec Ideal S2x768x8192 .bf16) (i : Shape.Idx ⟨2, ![1536, 8192]⟩) (h : S2x768x8192.ShapeCasts ⟨2, ![1536, 8192]⟩) :
    shapeCast ⟨2, ![1536, 8192]⟩ a0 h i = a0 (ValueIdx.ix3 ⟨(i 0).val / 768, by have : (i 0).val < 1536 := (i 0).isLt; omega⟩ ⟨(i 0).val % 768, Nat.mod_lt _ (by decide)⟩ (i 1)) := by
  pointwise
  rfl

/-- The reference's linear layer at a token is the kernel's at the token's row, for normal scales. -/
theorem lin_apply (a0 : Vec Ideal S2x768x8192 .bf16) (a1 : Vec Ideal S5120x8192 .fp8e4m3) (a2 : Vec Ideal S5120x256 .i8) (hn : ∀ i, Scale.Normal (a2 i)) (j : S2x768x5120.Idx) (r : Fin 1536) (hr : r.val = 768 * (j 0).val + (j 1).val) :
    k0_pay2 a1 a2 a0 j = lin a0 a1 a2 r (j 2) := by
  unfold k0_pay2
  pointwise
  unfold lin Spec.lin
  have b1 : (j 1).val < 768 := (j 1).isLt
  refine Finset.sum_congr rfl fun k _ => congrArg₂ (fun u v : EReal => u * v) ?_ (congrArg (fun v : EReal => _ * v) ?_)
  · rw [rows_at]
    refine congrArg a0 ?_
    funext a
    refine Fin.ext ?_
    fin_cases a
    · show (j 0).val = r.val / 768
      omega
    · show (j 1).val = r.val % 768
      omega
    · rfl
  · exact (Scale.byteFactor_eq _ (hn _)).symm

theorem G5_apply (a0 : Vec Ideal S2x768x8192 .bf16) (a1 : Vec Ideal S5120x8192 .fp8e4m3) (a2 : Vec Ideal S5120x256 .i8) (hn : ∀ i, Scale.Normal (a2 i)) (a3 : Vec Ideal S2x3x5120 .bf16) (a4 : Vec Ideal S5120x4 .f32) (j : S1536x5120.Idx) :
    Value.G5 a0 a1 a2 a3 a4 j = Spec.conv a3 (lin a0 a1 a2) (fun i q => a4 (ValueIdx.ix2 q i)) (j 0) (j 1) := by
  unfold Value.G5 k0_pay1 k0_pay4 k0_pay5 k0_pay6 k0_pay4
  have hP := lin_apply a0 a1 a2 hn
  generalize k0_pay2 a1 a2 a0 = L at hP ⊢
  pointwise
  have b0 : (j 0).val < 1536 := (j 0).isLt
  refine (Spec.conv_of a3 (lin a0 a1 a2) (fun i q => a4 (ValueIdx.ix2 q i)) _ (j 1) ⟨(j 0).val / 768, by omega⟩ ((j 0).val % 768) (Nat.mod_lt _ (by decide)) (by dsimp only; omega) _ _ _ _ ?_ ?_ ?_ ?_).symm
  case refine_4 =>
    refine (hP _ (j 0) ?_).trans (Spec.hist_ge _ _ _ _ _ _ ?_ ?_).symm
    · show (j 0).val = 768 * ((j 0).val / 768) + (j 0).val % 768
      omega
    · dsimp only; omega
    · dsimp only; omega
  all_goals
    split
    · exact (Spec.hist_lt _ _ _ _ _ _ (by first | rfl | exact Nat.add_comm _ _) (by assumption)).symm
    · refine (hP _ ⟨_, ?_⟩ rfl).trans (Spec.hist_ge _ _ _ _ _ _ ?_ ?_).symm
      · simp only [ix3]; omega
      · dsimp only; omega
      · simp [ix3]; try omega

theorem G6_apply (a0 : Vec Ideal S2x768x8192 .bf16) (a1 : Vec Ideal S5120x8192 .fp8e4m3) (a2 : Vec Ideal S5120x256 .i8) (hn : ∀ i, Scale.Normal (a2 i)) (a3 : Vec Ideal S2x3x5120 .bf16) (a4 : Vec Ideal S5120x4 .f32) (j : S2x3x5120.Idx) :
    Value.G6 a0 a1 a2 a3 a4 j = Spec.tail (lin a0 a1 a2) (j 0) (j 1) (j 2) := by
  unfold Value.G6 k0_pay3
  have hP := lin_apply a0 a1 a2 hn
  generalize k0_pay2 a1 a2 a0 = L at hP ⊢
  pointwise
  refine hP _ _ ?_
  show 768 * (j 0).val + 765 + (j 1).val = 768 * (j 0).val + (765 + (j 1).val)
  omega

end Cert.RefQIdeal.Read
-- ==== Proof.EqualQ.lean ====
module

public import proofs.«01_k».proof.Defs
public import proofs.«01_k».proof.Proof.Gen.Pre_scales_normal_q
public import proofs.«01_k».proof.Proof.ArraysQ
public import proofs.«01_k».proof.Proof.ReadQ

@[expose] public section

set_option maxRecDepth 16384

noncomputable section

namespace Cert.EqualQ

open Idealize.ShloMosaic Idealize.ShloMosaic.TcCoe Idealize.SL.Sem

attribute [local instance] Cert.ProjQIdeal.Gen.facts Cert.RefQIdeal.Gen.facts Cert.Pre_scales_normal_q.Gen.facts

/-- The precondition, read at one scale: its byte is the exponent field of a normal number. -/
theorem normal (m : (ℓ : Loc Cert.ProjQIdeal.nD Cert.ProjQIdeal.τ Cert.ProjQIdeal.sig) → Buf (Elt Ideal) ℓ) (pre : Cert.Pre_ProjQIdeal_scales_normal_q m) (c : Dev Cert.ProjQIdeal.nD) (i : Cert.ProjQIdeal.S5120x256.Idx) :
    Scale.Normal (m ((c.tc : Thread Cert.ProjQIdeal.nD Cert.ProjQIdeal.τ).loc Cert.ProjQIdeal.main_arg2) i) :=
  Scale.normal_of_flag _ (congrFun (pre c) i)

/-- Kernel and reference end with the same arrays. -/
theorem equal : Cert.algebraic_ProjQIdeal_RefQIdeal_pre_scales_normal_q := by
  intro m g m' g' pre hag
  refine ⟨fun c => (Cert.ProjQIdeal.Gen.dats m 0 c).arrAt 5 Cert.ProjQIdeal.cfg0.N, fun c => (Cert.ProjQIdeal.Gen.dats m 0 c).arrAt 6 Cert.ProjQIdeal.cfg0.N, Cert.ProjQIdeal.Value.run_blocks m g, ?_⟩
  refine (θ_run _ _ _).mono (fun r h c => ?_) (Cert.RefQIdeal.Value.run m' g')
  obtain ⟨e5, e6, hk⟩ := h c
  obtain ⟨h0, h1, h2, h3, h4⟩ := hag c
  have hn := normal m pre c
  rw [← h2] at hn
  refine ⟨e5.trans (Eq.trans (funext fun j => ?_) (Cert.ProjQIdeal.Arrays.final5 m c).symm), e6.trans (Eq.trans (funext fun j => ?_) (Cert.ProjQIdeal.Arrays.final6 m c).symm), hk⟩
  · rw [Cert.RefQIdeal.Read.G5_apply _ _ _ hn, h0, h1, h2, h3, h4]
    rfl
  · rw [Cert.RefQIdeal.Read.G6_apply _ _ _ hn, h0, h1, h2]
    rfl

end Cert.EqualQ

end
-- ==== Proof.BlockV.lean ====
module

public import proofs.«01_k».proof.Proof.Gen.ProjVIdeal.Value
public import Idealize.ShloMosaic.Lib.Pipeline.ValueKit
public import Idealize.ShloMosaic.Lib.Pipeline.ReadBack
public import proofs.«01_k».proof.Proof.BlockQ

@[expose] public section

set_option maxRecDepth 16384

noncomputable section

namespace Cert.ProjVIdeal.Block

open Cert.ProjVIdeal Cert.ProjVIdeal.Gen Idealize.ShloMosaic Idealize.ShloMosaic.TcCoe Idealize.ShloMosaic.Tactic Idealize.SL.Sem
open Idealize.ShloMosaic.Pipeline (Dat)

/-! A block of this call is a block of the other projection's shape: the values that one computes are this one's. -/

/-- What a block of the first output holds: the gated convolution. -/
theorem out5_eq (c : Dev nD) (i : grid0.Coords) (arg1 : Memref sig .tc .vmem S1536x8192 .bf16) (harg1 : arg1.IsWhole) (arg2 : Memref sig .tc .vmem S512x8192 .fp8e4m3) (harg2 : arg2.IsWhole) (arg3 : Memref sig .tc .vmem S512x256 .i8) (harg3 : arg3.IsWhole) (arg4 : Memref sig .tc .vmem S2x3x512 .bf16) (harg4 : arg4.IsWhole) (arg5 : Memref sig .tc .vmem S4x512 .f32) (harg5 : arg5.IsWhole) (arg6 : Memref sig .tc .vmem S1536x512 .bf16) (harg6 : arg6.IsWhole) (arg7 : Memref sig .tc .vmem S2x3x512 .bf16) (harg7 : arg7.IsWhole) (arg8 : Memref sig .tc .vmem S512x8192 .bf16) (harg8 : arg8.IsWhole)
    (x0 : Vec Ideal S1536x8192 .bf16) (x1 : Vec Ideal S512x8192 .fp8e4m3) (x2 : Vec Ideal S512x256 .i8) (x3 : Vec Ideal S2x3x512 .bf16) (x4 : Vec Ideal S4x512 .f32) (y : S1536x512.Idx) :
    out0_A_5 (F := Ideal) c i arg1 harg1 arg2 harg2 arg3 harg3 arg4 harg4 arg5 harg5 arg6 harg6 arg7 harg7 arg8 harg8 x0 x1 x2 x3 x4 y = Spec.conv x3 (Spec.lin x0 (Mx.weight (by decide) x1 x2)) (fun i c => x4 (ValueIdx.ix2 i c)) (y 0) (y 1) := by
  frame_out
  rw [Mx.readCov_whole _ _ (Mx.weight (by decide) x1 x2) (by decide) ?h]
  case h =>
    intro y
    canon_tiles x h
    all_goals
      open_payloads
      refine Mx.chunk_weight _ x1 x2 (k0_pay2 x2) (fun _ => rfl) k0_pay3 ProjQIdeal.Block.group_apply _ _ _ x y ?_ ?_ ?_ ?_
      all_goals first | omega | decide
  canon_tiles x h
  · refine (ProjQIdeal.Block.conv1 _ _ _ _ _).trans ?_
    exact congrArg₂ (Spec.conv _ _ _) (Fin.ext h0.symm) (Fin.ext h1.symm)
  · refine (ProjQIdeal.Block.conv0 _ _ _ _ _).trans ?_
    exact congrArg₂ (Spec.conv _ _ _) (Fin.ext h0.symm) (Fin.ext h1.symm)

/-- What a block of the second output holds: the last three rows of each batch's linear layer. -/
theorem out6_eq (c : Dev nD) (i : grid0.Coords) (arg1 : Memref sig .tc .vmem S1536x8192 .bf16) (harg1 : arg1.IsWhole) (arg2 : Memref sig .tc .vmem S512x8192 .fp8e4m3) (harg2 : arg2.IsWhole) (arg3 : Memref sig .tc .vmem S512x256 .i8) (harg3 : arg3.IsWhole) (arg4 : Memref sig .tc .vmem S2x3x512 .bf16) (harg4 : arg4.IsWhole) (arg5 : Memref sig .tc .vmem S4x512 .f32) (harg5 : arg5.IsWhole) (arg6 : Memref sig .tc .vmem S1536x512 .bf16) (harg6 : arg6.IsWhole) (arg7 : Memref sig .tc .vmem S2x3x512 .bf16) (harg7 : arg7.IsWhole) (arg8 : Memref sig .tc .vmem S512x8192 .bf16) (harg8 : arg8.IsWhole)
    (x0 : Vec Ideal S1536x8192 .bf16) (x1 : Vec Ideal S512x8192 .fp8e4m3) (x2 : Vec Ideal S512x256 .i8) (x3 : Vec Ideal S2x3x512 .bf16) (x4 : Vec Ideal S4x512 .f32) (y : S2x3x512.Idx) :
    out0_A_6 (F := Ideal) c i arg1 harg1 arg2 harg2 arg3 harg3 arg4 harg4 arg5 harg5 arg6 harg6 arg7 harg7 arg8 harg8 x0 x1 x2 x3 x4 y = Spec.tail (Spec.lin x0 (Mx.weight (by decide) x1 x2)) (y 0) (y 1) (y 2) := by
  frame_out
  rw [Mx.readCov_whole _ _ (Mx.weight (by decide) x1 x2) (by decide) ?h]
  case h =>
    intro y
    canon_tiles x h
    all_goals
      open_payloads
      refine Mx.chunk_weight _ x1 x2 (k0_pay2 x2) (fun _ => rfl) k0_pay3 ProjQIdeal.Block.group_apply _ _ _ x y ?_ ?_ ?_ ?_
      all_goals first | omega | decide
  canon_tiles x h
  · refine (ProjQIdeal.Block.tail1 _ _).trans ((ProjQIdeal.Block.proj_apply _ _ _).trans ?_)
    exact congrArg₂ (Spec.lin x0 _) (Fin.ext (by dsimp only [Spec.tailRow]; omega)) (Fin.ext h2.symm)
  · refine (ProjQIdeal.Block.tail0 _ _ _).trans ((ProjQIdeal.Block.proj_apply _ _ _).trans ?_)
    exact congrArg₂ (Spec.lin x0 _) (Fin.ext (by dsimp only [Spec.tailRow]; omega)) (Fin.ext h2.symm)

end Cert.ProjVIdeal.Block
-- ==== Proof.ArraysV.lean ====
module

public import proofs.«01_k».proof.Proof.Gen.ProjVIdeal.Value
public import Idealize.ShloMosaic.Lib.Pipeline.ValueKit
public import Idealize.ShloMosaic.Lib.Pipeline.ReadBack
public import proofs.«01_k».proof.Proof.BlockV

@[expose] public section

set_option maxRecDepth 16384

noncomputable section

namespace Cert.ProjVIdeal.Arrays

open Cert.ProjVIdeal Cert.ProjVIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The activations the region finds: the launched ones, two batches of rows one under the other. -/
theorem V_main_v0 (c : Dev nD) : V m c main_v0 = shapeCast S1536x8192 (m ((c : Thread nD τ).loc main_arg0)) shapeCasts_S2x768x8192_S1536x8192 := by
  show StableHlo.after hostOps0 _ (Proc.devRef .tc main_v0) = _
  after_results
  rfl

/-- The taps the region finds: the launched ones, transposed. -/
theorem V_main_v1 (c : Dev nD) : V m c main_v1 = transpose S4x15360 [1, 0] (m ((c : Thread nD τ).loc main_arg4)) transposes_S15360x4_S4x15360_1_0 := by
  show StableHlo.after hostOps0 _ (Proc.devRef .tc main_v1) = _
  after_results

theorem taps_at (x : Vec Ideal S15360x4 .f32) (i : S4x15360.Idx) : transpose S4x15360 [1, 0] x transposes_S15360x4_S4x15360_1_0 i = x (ValueIdx.ix2 (i 1) (i 0)) := by
  pointwise
  rfl

theorem e0 : ∀ t : Fin cfg0.N, win0_0.index t = ![0, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0, t.val] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![0, 0, t.val] := (by decide +kernel : ∀ t : Fin grid0.N, _)

/-! Where a block's index lies in its array. -/

theorem p0_0 (t : Fin cfg0.N) (y : S1536x8192.Idx) : ((win0_0.blk t).view.emb y 0).val = (y 0).val := by blk_simp [e0]
theorem p0_1 (t : Fin cfg0.N) (y : S1536x8192.Idx) : ((win0_0.blk t).view.emb y 1).val = (y 1).val := by blk_simp [e0]
theorem p1_0 (t : Fin cfg0.N) (y : S512x8192.Idx) : ((win0_1.blk t).view.emb y 0).val = t.val * 512 + (y 0).val := by blk_simp [e1]
theorem p1_1 (t : Fin cfg0.N) (y : S512x8192.Idx) : ((win0_1.blk t).view.emb y 1).val = (y 1).val := by blk_simp [e1]
theorem p2_0 (t : Fin cfg0.N) (y : S512x256.Idx) : ((win0_2.blk t).view.emb y 0).val = t.val * 512 + (y 0).val := by blk_simp [e2]
theorem p2_1 (t : Fin cfg0.N) (y : S512x256.Idx) : ((win0_2.blk t).view.emb y 1).val = (y 1).val := by blk_simp [e2]
theorem p3_0 (t : Fin cfg0.N) (y : S2x3x512.Idx) : ((win0_3.blk t).view.emb y 0).val = (y 0).val := by blk_simp [e3]
theorem p3_1 (t : Fin cfg0.N) (y : S2x3x512.Idx) : ((win0_3.blk t).view.emb y 1).val = (y 1).val := by blk_simp [e3]
theorem p3_2 (t : Fin cfg0.N) (y : S2x3x512.Idx) : ((win0_3.blk t).view.emb y 2).val = t.val * 512 + (y 2).val := by blk_simp [e3]
theorem p4_0 (t : Fin cfg0.N) (y : S4x512.Idx) : ((win0_4.blk t).view.emb y 0).val = (y 0).val := by blk_simp [e4]
theorem p4_1 (t : Fin cfg0.N) (y : S4x512.Idx) : ((win0_4.blk t).view.emb y 1).val = t.val * 512 + (y 1).val := by blk_simp [e4]
theorem p5_0 (t : Fin cfg0.N) (y : S1536x512.Idx) : ((win0_5.blk t).view.emb y 0).val = (y 0).val := by blk_simp [e5]
theorem p5_1 (t : Fin cfg0.N) (y : S1536x512.Idx) : ((win0_5.blk t).view.emb y 1).val = t.val * 512 + (y 1).val := by blk_simp [e5]
theorem p6_0 (t : Fin cfg0.N) (y : S2x3x512.Idx) : ((win0_6.blk t).view.emb y 0).val = (y 0).val := by blk_simp [e6]
theorem p6_1 (t : Fin cfg0.N) (y : S2x3x512.Idx) : ((win0_6.blk t).view.emb y 1).val = (y 1).val := by blk_simp [e6]
theorem p6_2 (t : Fin cfg0.N) (y : S2x3x512.Idx) : ((win0_6.blk t).view.emb y 2).val = t.val * 512 + (y 2).val := by blk_simp [e6]

/-- The linear layer of the launched arrays. -/
def lin (c : Dev nD) : Fin 1536 → Fin 15360 → EReal :=
  Spec.lin (shapeCast S1536x8192 (m ((c : Thread nD τ).loc main_arg0)) shapeCasts_S2x768x8192_S1536x8192) (Mx.weight (by decide) (m ((c : Thread nD τ).loc main_arg1)) (m ((c : Thread nD τ).loc main_arg2)))

/-- The linear layer of point `t`'s blocks is 512 columns of the launched arrays'. -/
theorem lin_block (c : Dev nD) (t : Fin cfg0.N) (r : Fin 1536) (q : Fin 512) (q' : Fin 15360) (hq : q'.val = t.val * 512 + q.val) :
    Spec.lin (iblk m c 0 t) (Mx.weight (by decide) (iblk m c 1 t) (iblk m c 2 t)) r q = lin m c r q' := by
  refine Spec.lin_congr _ _ _ _ _ _ _ _ (fun k => ?_) (fun k => Spec.weight_congr _ _ _ _ _ _ _ _ ?_ fun b => ?_)
  · blk_simp [iblk]
    rw [V_main_v0]
    exact congrArg _ (Spec.ext2 (p0_0 t _) (p0_1 t _))
  · blk_simp [iblk]
    rw [V_main_arg1]
    exact congrArg _ (Spec.ext2 ((p1_0 t _).trans hq.symm) (p1_1 t _))
  · blk_simp [iblk]
    rw [V_main_arg2]
    exact congrArg _ (Spec.ext2 ((p2_0 t _).trans hq.symm) (p2_1 t _))

/-- The first output after the run. -/
theorem final5 (c : Dev nD) : (dats m 0 c).arrAt 5 cfg0.N = fun j => Spec.conv (m ((c : Thread nD τ).loc main_arg3)) (lin m c) (fun i q => m ((c : Thread nD τ).loc main_arg4) (ValueIdx.ix2 q i)) (j 0) (j 1) := by
  refine (dats m 0 c).arrAt_eq_of_covers 5 _ (by decide +kernel) fun t hf y => ?_
  blk_simp
  rw [after0_5]
  unfold outsAt0
  dsimp only
  rw [Block.out5_eq]
  have h0 : ((win0_5.blk t).view.emb y 0).val = (y 0).val := p5_0 t y
  have h1 : ((win0_5.blk t).view.emb y 1).val = t.val * 512 + (y 1).val := p5_1 t y
  refine Spec.conv_congr _ _ _ _ _ _ _ _ _ _ (Fin.ext h0.symm) (fun b i => ?_) (fun q => lin_block m c t q _ _ h1) fun i => ?_
  · blk_simp [iblk]
    rw [V_main_arg3]
    exact congrArg _ (Spec.ext3 (p3_0 t _) (p3_1 t _) ((p3_2 t _).trans h1.symm))
  · blk_simp [iblk]
    rw [V_main_v1, taps_at]
    exact congrArg _ (Spec.ext2 ((p4_1 t _).trans h1.symm) (p4_0 t _))

/-- The second output after the run. -/
theorem final6 (c : Dev nD) : (dats m 0 c).arrAt 6 cfg0.N = fun j => Spec.tail (lin m c) (j 0) (j 1) (j 2) := by
  refine (dats m 0 c).arrAt_eq_of_covers 6 _ (by decide +kernel) fun t hf y => ?_
  blk_simp
  rw [after0_6]
  unfold outsAt0
  dsimp only
  rw [Block.out6_eq]
  have h0 : ((win0_6.blk t).view.emb y 0).val = (y 0).val := p6_0 t y
  have h1 : ((win0_6.blk t).view.emb y 1).val = (y 1).val := p6_1 t y
  have h2 : ((win0_6.blk t).view.emb y 2).val = t.val * 512 + (y 2).val := p6_2 t y
  have hr : Spec.tailRow (y 0) (y 1) = Spec.tailRow ((win0_6.blk t).view.emb y 0) ((win0_6.blk t).view.emb y 1) := congrArg₂ Spec.tailRow (Fin.ext h0.symm) (Fin.ext h1.symm)
  refine (lin_block m c t _ _ _ h2).trans ?_
  exact congrArg (fun r => lin m c r _) hr

end Cert.ProjVIdeal.Arrays
-- ==== Proof.ReadV.lean ====
module

public import proofs.«01_k».proof.Proof.Gen.RefVIdeal.Value
public import Idealize.ShloMosaic.Lib.Pipeline.ValueKit
public import Idealize.ShloMosaic.Lib.Pipeline.ReadBack
public import proofs.«01_k».proof.Proof.Spec
public import proofs.«01_k».proof.Proof.Scale

@[expose] public section

set_option maxRecDepth 16384

noncomputable section

namespace Cert.RefVIdeal.Read

open Cert.RefVIdeal Cert.RefVIdeal.Gen Idealize.ShloMosaic Idealize.ShloMosaic.TcCoe Idealize.ShloMosaic.Tactic Idealize.SL.Sem
open Idealize.ShloMosaic.Pipeline (Dat)

/-- The linear layer in the kernel's spelling: the rows of both batches one under the other. -/
def lin (a0 : Vec Ideal S2x768x8192 .bf16) (a1 : Vec Ideal S15360x8192 .fp8e4m3) (a2 : Vec Ideal S15360x256 .i8) : Fin 1536 → Fin 15360 → EReal :=
  Spec.lin (shapeCast ⟨2, ![1536, 8192]⟩ a0 (by decide)) (Mx.weight (by decide) a1 a2)

theorem rows_at (a0 : Vec Ideal S2x768x8192 .bf16) (i : Shape.Idx ⟨2, ![1536, 8192]⟩) (h : S2x768x8192.ShapeCasts ⟨2, ![1536, 8192]⟩) :
    shapeCast ⟨2, ![1536, 8192]⟩ a0 h i = a0 (ValueIdx.ix3 ⟨(i 0).val / 768, by have : (i 0).val < 1536 := (i 0).isLt; omega⟩ ⟨(i 0).val % 768, Nat.mod_lt _ (by decide)⟩ (i 1)) := by
  pointwise
  rfl

/-- The reference's linear layer at a token is the kernel's at the token's row, for normal scales. -/
theorem lin_apply (a0 : Vec Ideal S2x768x8192 .bf16) (a1 : Vec Ideal S15360x8192 .fp8e4m3) (a2 : Vec Ideal S15360x256 .i8) (hn : ∀ i, Scale.Normal (a2 i)) (j : S2x768x15360.Idx) (r : Fin 1536) (hr : r.val = 768 * (j 0).val + (j 1).val) :
    k0_pay2 a1 a2 a0 j = lin a0 a1 a2 r (j 2) := by
  unfold k0_pay2
  pointwise
  unfold lin Spec.lin
  have b1 : (j 1).val < 768 := (j 1).isLt
  refine Finset.sum_congr rfl fun k _ => congrArg₂ (fun u v : EReal => u * v) ?_ (congrArg (fun v : EReal => _ * v) ?_)
  · rw [rows_at]
    refine congrArg a0 ?_
    funext a
    refine Fin.ext ?_
    fin_cases a
    · show (j 0).val = r.val / 768
      omega
    · show (j 1).val = r.val % 768
      omega
    · rfl
  · exact (Scale.byteFactor_eq _ (hn _)).symm

theorem G5_apply (a0 : Vec Ideal S2x768x8192 .bf16) (a1 : Vec Ideal S15360x8192 .fp8e4m3) (a2 : Vec Ideal S15360x256 .i8) (hn : ∀ i, Scale.Normal (a2 i)) (a3 : Vec Ideal S2x3x15360 .bf16) (a4 : Vec Ideal S15360x4 .f32) (j : S1536x15360.Idx) :
    Value.G5 a0 a1 a2 a3 a4 j = Spec.conv a3 (lin a0 a1 a2) (fun i q => a4 (ValueIdx.ix2 q i)) (j 0) (j 1) := by
  unfold Value.G5 k0_pay1 k0_pay4 k0_pay5 k0_pay6 k0_pay4
  have hP := lin_apply a0 a1 a2 hn
  generalize k0_pay2 a1 a2 a0 = L at hP ⊢
  pointwise
  have b0 : (j 0).val < 1536 := (j 0).isLt
  refine (Spec.conv_of a3 (lin a0 a1 a2) (fun i q => a4 (ValueIdx.ix2 q i)) _ (j 1) ⟨(j 0).val / 768, by omega⟩ ((j 0).val % 768) (Nat.mod_lt _ (by decide)) (by dsimp only; omega) _ _ _ _ ?_ ?_ ?_ ?_).symm
  case refine_4 =>
    refine (hP _ (j 0) ?_).trans (Spec.hist_ge _ _ _ _ _ _ ?_ ?_).symm
    · show (j 0).val = 768 * ((j 0).val / 768) + (j 0).val % 768
      omega
    · dsimp only; omega
    · dsimp only; omega
  all_goals
    split
    · exact (Spec.hist_lt _ _ _ _ _ _ (by first | rfl | exact Nat.add_comm _ _) (by assumption)).symm
    · refine (hP _ ⟨_, ?_⟩ rfl).trans (Spec.hist_ge _ _ _ _ _ _ ?_ ?_).symm
      · simp only [ix3]; omega
      · dsimp only; omega
      · simp [ix3]; try omega

theorem G6_apply (a0 : Vec Ideal S2x768x8192 .bf16) (a1 : Vec Ideal S15360x8192 .fp8e4m3) (a2 : Vec Ideal S15360x256 .i8) (hn : ∀ i, Scale.Normal (a2 i)) (a3 : Vec Ideal S2x3x15360 .bf16) (a4 : Vec Ideal S15360x4 .f32) (j : S2x3x15360.Idx) :
    Value.G6 a0 a1 a2 a3 a4 j = Spec.tail (lin a0 a1 a2) (j 0) (j 1) (j 2) := by
  unfold Value.G6 k0_pay3
  have hP := lin_apply a0 a1 a2 hn
  generalize k0_pay2 a1 a2 a0 = L at hP ⊢
  pointwise
  refine hP _ _ ?_
  show 768 * (j 0).val + 765 + (j 1).val = 768 * (j 0).val + (765 + (j 1).val)
  omega

end Cert.RefVIdeal.Read
-- ==== Proof.EqualV.lean ====
module

public import proofs.«01_k».proof.Defs
public import proofs.«01_k».proof.Proof.Gen.Pre_scales_normal_v
public import proofs.«01_k».proof.Proof.ArraysV
public import proofs.«01_k».proof.Proof.ReadV

@[expose] public section

set_option maxRecDepth 16384

noncomputable section

namespace Cert.EqualV

open Idealize.ShloMosaic Idealize.ShloMosaic.TcCoe Idealize.SL.Sem

attribute [local instance] Cert.ProjVIdeal.Gen.facts Cert.RefVIdeal.Gen.facts Cert.Pre_scales_normal_v.Gen.facts

/-- The precondition, read at one scale: its byte is the exponent field of a normal number. -/
theorem normal (m : (ℓ : Loc Cert.ProjVIdeal.nD Cert.ProjVIdeal.τ Cert.ProjVIdeal.sig) → Buf (Elt Ideal) ℓ) (pre : Cert.Pre_ProjVIdeal_scales_normal_v m) (c : Dev Cert.ProjVIdeal.nD) (i : Cert.ProjVIdeal.S15360x256.Idx) :
    Scale.Normal (m ((c.tc : Thread Cert.ProjVIdeal.nD Cert.ProjVIdeal.τ).loc Cert.ProjVIdeal.main_arg2) i) :=
  Scale.normal_of_flag _ (congrFun (pre c) i)

/-- Kernel and reference end with the same arrays. -/
theorem equal : Cert.algebraic_ProjVIdeal_RefVIdeal_pre_scales_normal_v := by
  intro m g m' g' pre hag
  refine ⟨fun c => (Cert.ProjVIdeal.Gen.dats m 0 c).arrAt 5 Cert.ProjVIdeal.cfg0.N, fun c => (Cert.ProjVIdeal.Gen.dats m 0 c).arrAt 6 Cert.ProjVIdeal.cfg0.N, Cert.ProjVIdeal.Value.run_blocks m g, ?_⟩
  refine (θ_run _ _ _).mono (fun r h c => ?_) (Cert.RefVIdeal.Value.run m' g')
  obtain ⟨e5, e6, hk⟩ := h c
  obtain ⟨h0, h1, h2, h3, h4⟩ := hag c
  have hn := normal m pre c
  rw [← h2] at hn
  refine ⟨e5.trans (Eq.trans (funext fun j => ?_) (Cert.ProjVIdeal.Arrays.final5 m c).symm), e6.trans (Eq.trans (funext fun j => ?_) (Cert.ProjVIdeal.Arrays.final6 m c).symm), hk⟩
  · rw [Cert.RefVIdeal.Read.G5_apply _ _ _ hn, h0, h1, h2, h3, h4]
    rfl
  · rw [Cert.RefVIdeal.Read.G6_apply _ _ _ hn, h0, h1, h2]
    rfl

end Cert.EqualV

end
-- ==== Proof.BlockG.lean ====
module

public import proofs.«01_k».proof.Proof.Gen.ProjGIdeal.Value
public import Idealize.ShloMosaic.Lib.Pipeline.ValueKit
public import Idealize.ShloMosaic.Lib.Pipeline.ReadBack
public import proofs.«01_k».proof.Proof.Spec

@[expose] public section

set_option maxRecDepth 161536

noncomputable section

namespace Cert.ProjGIdeal.Block

open Cert.ProjGIdeal Cert.ProjGIdeal.Gen Idealize.ShloMosaic Idealize.ShloMosaic.TcCoe Idealize.ShloMosaic.Tactic Idealize.SL.Sem
open Idealize.ShloMosaic.Pipeline (Dat)

/-- The lane's group of 32 columns, as the kernel computes it. -/
theorem group_apply (j : S512x128.Idx) : k0_pay3 j = BitVec.ofNat 32 ((j 1).val / 32) := by
  have h : ∀ q : Fin 128, k0_pay3 (ValueIdx.ix2 (0 : Fin 512) q) = BitVec.ofNat 32 (q.val / 32) := by decide +kernel
  exact h (j 1)

/-- The linear layer of one block, as the kernel keeps it. -/
theorem proj_apply (x : Vec Ideal S1536x8192 .bf16) (W : Vec Ideal S512x8192 .bf16) (j : S1536x512.Idx) : k0_pay1 (F := Ideal) x W j = Spec.lin x W (j 0) (j 1) := by
  show matmul (φ₁ := .bf16) (φ₂ := .bf16) (DotDims.transposedRhs 1536 8192 512) none x W (constant (F := Ideal) S1536x512 .f32 0x00000000#32) j = _
  exact Spec.matmul_eq_lin x W j

/-- What a block of the output holds: the linear layer. -/
theorem out3_eq (c : Dev nD) (i : grid0.Coords) (arg1 : Memref sig .tc .vmem S1536x8192 .bf16) (harg1 : arg1.IsWhole) (arg2 : Memref sig .tc .vmem S512x8192 .fp8e4m3) (harg2 : arg2.IsWhole) (arg3 : Memref sig .tc .vmem S512x256 .i8) (harg3 : arg3.IsWhole) (arg4 : Memref sig .tc .vmem S1536x512 .bf16) (harg4 : arg4.IsWhole) (arg5 : Memref sig .tc .vmem S512x8192 .bf16) (harg5 : arg5.IsWhole)
    (x0 : Vec Ideal S1536x8192 .bf16) (x1 : Vec Ideal S512x8192 .fp8e4m3) (x2 : Vec Ideal S512x256 .i8) (y : S1536x512.Idx) :
    out0_A_3 (F := Ideal) c i arg1 harg1 arg2 harg2 arg3 harg3 arg4 harg4 arg5 harg5 x0 x1 x2 y = Spec.lin x0 (Mx.weight (by decide) x1 x2) (y 0) (y 1) := by
  frame_out
  rw [Mx.readCov_whole _ _ (Mx.weight (by decide) x1 x2) (by decide) ?h]
  case h =>
    intro y
    canon_tiles x h
    all_goals
      open_payloads
      refine Mx.chunk_weight _ x1 x2 (k0_pay2 x2) (fun _ => rfl) k0_pay3 group_apply _ _ _ x y ?_ ?_ ?_ ?_
      all_goals first | omega | decide
  rw [show k0_pay115 (F := Ideal) x0 = x0 from shapeCast_self _ _]
  exact proj_apply _ _ _

end Cert.ProjGIdeal.Block
-- ==== Proof.ArraysG.lean ====
module

public import proofs.«01_k».proof.Proof.Gen.ProjGIdeal.Value
public import Idealize.ShloMosaic.Lib.Pipeline.ValueKit
public import Idealize.ShloMosaic.Lib.Pipeline.ReadBack
public import proofs.«01_k».proof.Proof.BlockG

@[expose] public section

set_option maxRecDepth 16384

noncomputable section

namespace Cert.ProjGIdeal.Arrays

open Cert.ProjGIdeal Cert.ProjGIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The activations the region finds: the launched ones, two batches of rows one under the other. -/
theorem V_main_v0 (c : Dev nD) : V m c main_v0 = shapeCast S1536x8192 (m ((c : Thread nD τ).loc main_arg0)) shapeCasts_S2x768x8192_S1536x8192 := by
  show StableHlo.after hostOps0 _ (Proc.devRef .tc main_v0) = _
  after_results
  rfl

theorem e0 : ∀ t : Fin cfg0.N, win0_0.index t = ![0, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, t.val] := (by decide +kernel : ∀ t : Fin grid0.N, _)

/-! Where a block's index lies in its array. -/

theorem p0_0 (t : Fin cfg0.N) (y : S1536x8192.Idx) : ((win0_0.blk t).view.emb y 0).val = (y 0).val := by blk_simp [e0]
theorem p0_1 (t : Fin cfg0.N) (y : S1536x8192.Idx) : ((win0_0.blk t).view.emb y 1).val = (y 1).val := by blk_simp [e0]
theorem p1_0 (t : Fin cfg0.N) (y : S512x8192.Idx) : ((win0_1.blk t).view.emb y 0).val = t.val * 512 + (y 0).val := by blk_simp [e1]
theorem p1_1 (t : Fin cfg0.N) (y : S512x8192.Idx) : ((win0_1.blk t).view.emb y 1).val = (y 1).val := by blk_simp [e1]
theorem p2_0 (t : Fin cfg0.N) (y : S512x256.Idx) : ((win0_2.blk t).view.emb y 0).val = t.val * 512 + (y 0).val := by blk_simp [e2]
theorem p2_1 (t : Fin cfg0.N) (y : S512x256.Idx) : ((win0_2.blk t).view.emb y 1).val = (y 1).val := by blk_simp [e2]
theorem p3_0 (t : Fin cfg0.N) (y : S1536x512.Idx) : ((win0_3.blk t).view.emb y 0).val = (y 0).val := by blk_simp [e3]
theorem p3_1 (t : Fin cfg0.N) (y : S1536x512.Idx) : ((win0_3.blk t).view.emb y 1).val = t.val * 512 + (y 1).val := by blk_simp [e3]

/-- The linear layer of the launched arrays. -/
def lin (c : Dev nD) : Fin 1536 → Fin 15360 → EReal :=
  Spec.lin (shapeCast S1536x8192 (m ((c : Thread nD τ).loc main_arg0)) shapeCasts_S2x768x8192_S1536x8192) (Mx.weight (by decide) (m ((c : Thread nD τ).loc main_arg1)) (m ((c : Thread nD τ).loc main_arg2)))

/-- The linear layer of point `t`'s blocks is 512 columns of the launched arrays'. -/
theorem lin_block (c : Dev nD) (t : Fin cfg0.N) (r r' : Fin 1536) (q : Fin 512) (q' : Fin 15360) (hr : r'.val = r.val) (hq : q'.val = t.val * 512 + q.val) :
    Spec.lin (M := 1536) (N := 512) (K := 8192) (iblk m c 0 t) (Mx.weight (by decide) (iblk m c 1 t) (iblk m c 2 t)) r q = lin m c r' q' := by
  refine Spec.lin_congr _ _ _ _ _ _ _ _ (fun k => ?_) (fun k => Spec.weight_congr _ _ _ _ _ _ _ _ ?_ fun b => ?_)
  · blk_simp [iblk]
    rw [V_main_v0]
    exact congrArg _ (Spec.ext2 ((p0_0 t _).trans hr.symm) (p0_1 t _))
  · blk_simp [iblk]
    rw [V_main_arg1]
    exact congrArg _ (Spec.ext2 ((p1_0 t _).trans hq.symm) (p1_1 t _))
  · blk_simp [iblk]
    rw [V_main_arg2]
    exact congrArg _ (Spec.ext2 ((p2_0 t _).trans hq.symm) (p2_1 t _))

/-- The output after the run. -/
theorem final3 (c : Dev nD) : (dats m 0 c).arrAt 3 cfg0.N = fun j => lin m c (j 0) (j 1) := by
  refine (dats m 0 c).arrAt_eq_of_covers 3 _ (by decide +kernel) fun t hf y => ?_
  blk_simp
  rw [after0_3]
  unfold outsAt0
  rw [Block.out3_eq]
  exact lin_block m c t _ _ _ _ (p3_0 t y) (p3_1 t y)

end Cert.ProjGIdeal.Arrays
-- ==== Proof.ReadG.lean ====
module

public import proofs.«01_k».proof.Proof.Gen.RefGIdeal.Value
public import Idealize.ShloMosaic.Lib.Pipeline.ValueKit
public import Idealize.ShloMosaic.Lib.Pipeline.ReadBack
public import proofs.«01_k».proof.Proof.Spec
public import proofs.«01_k».proof.Proof.Scale

@[expose] public section

set_option maxRecDepth 16384

noncomputable section

namespace Cert.RefGIdeal.Read

open Cert.RefGIdeal Cert.RefGIdeal.Gen Idealize.ShloMosaic Idealize.ShloMosaic.TcCoe Idealize.ShloMosaic.Tactic Idealize.SL.Sem
open Idealize.ShloMosaic.Pipeline (Dat)

/-- The linear layer in the kernel's spelling: the rows of both batches one under the other. -/
def lin (a0 : Vec Ideal S2x768x8192 .bf16) (a1 : Vec Ideal S15360x8192 .fp8e4m3) (a2 : Vec Ideal S15360x256 .i8) : Fin 1536 → Fin 15360 → EReal :=
  Spec.lin (shapeCast ⟨2, ![1536, 8192]⟩ a0 (by decide)) (Mx.weight (by decide) a1 a2)

theorem rows_at (a0 : Vec Ideal S2x768x8192 .bf16) (i : Shape.Idx ⟨2, ![1536, 8192]⟩) (h : S2x768x8192.ShapeCasts ⟨2, ![1536, 8192]⟩) :
    shapeCast ⟨2, ![1536, 8192]⟩ a0 h i = a0 (ValueIdx.ix3 ⟨(i 0).val / 768, by have : (i 0).val < 1536 := (i 0).isLt; omega⟩ ⟨(i 0).val % 768, Nat.mod_lt _ (by decide)⟩ (i 1)) := by
  pointwise
  rfl

/-- The reference's array is the kernel's linear layer, for normal scales. -/
theorem G3_apply (a0 : Vec Ideal S2x768x8192 .bf16) (a1 : Vec Ideal S15360x8192 .fp8e4m3) (a2 : Vec Ideal S15360x256 .i8) (hn : ∀ i, Scale.Normal (a2 i)) (j : S1536x15360.Idx) :
    Value.G3 a0 a1 a2 j = lin a0 a1 a2 (j 0) (j 1) := by
  unfold Value.G3 k0_pay1
  pointwise
  unfold lin Spec.lin
  refine Finset.sum_congr rfl fun k _ => congrArg₂ (fun u v : EReal => u * v) ?_ (congrArg (fun v : EReal => _ * v) ?_)
  · rw [rows_at]
    rfl
  · exact (Scale.byteFactor_eq _ (hn _)).symm

end Cert.RefGIdeal.Read
-- ==== Proof.EqualG.lean ====
module

public import proofs.«01_k».proof.Defs
public import proofs.«01_k».proof.Proof.Gen.Pre_scales_normal_g
public import proofs.«01_k».proof.Proof.ArraysG
public import proofs.«01_k».proof.Proof.ReadG

@[expose] public section

set_option maxRecDepth 16384

noncomputable section

namespace Cert.EqualG

open Idealize.ShloMosaic Idealize.ShloMosaic.TcCoe Idealize.SL.Sem

attribute [local instance] Cert.ProjGIdeal.Gen.facts Cert.RefGIdeal.Gen.facts Cert.Pre_scales_normal_g.Gen.facts

/-- The precondition, read at one scale: its byte is the exponent field of a normal number. -/
theorem normal (m : (ℓ : Loc Cert.ProjGIdeal.nD Cert.ProjGIdeal.τ Cert.ProjGIdeal.sig) → Buf (Elt Ideal) ℓ) (pre : Cert.Pre_ProjGIdeal_scales_normal_g m) (c : Dev Cert.ProjGIdeal.nD) (i : Cert.ProjGIdeal.S15360x256.Idx) :
    Scale.Normal (m ((c.tc : Thread Cert.ProjGIdeal.nD Cert.ProjGIdeal.τ).loc Cert.ProjGIdeal.main_arg2) i) :=
  Scale.normal_of_flag _ (congrFun (pre c) i)

/-- Kernel and reference end with the same arrays. -/
theorem equal : Cert.algebraic_ProjGIdeal_RefGIdeal_pre_scales_normal_g := by
  intro m g m' g' pre hag
  refine ⟨fun c => (Cert.ProjGIdeal.Gen.dats m 0 c).arrAt 3 Cert.ProjGIdeal.cfg0.N, Cert.ProjGIdeal.Value.run_blocks m g, ?_⟩
  refine (θ_run _ _ _).mono (fun r h c => ?_) (Cert.RefGIdeal.Value.run m' g')
  obtain ⟨e3, hk⟩ := h c
  obtain ⟨h0, h1, h2⟩ := hag c
  have hn := normal m pre c
  rw [← h2] at hn
  refine ⟨e3.trans (Eq.trans (funext fun j => ?_) (Cert.ProjGIdeal.Arrays.final3 m c).symm), hk⟩
  rw [Cert.RefGIdeal.Read.G3_apply _ _ _ hn, h0, h1, h2]
  rfl

end Cert.EqualG

end
-- ==== Proof.BlockOut.lean ====
module

public import proofs.«01_k».proof.Proof.Gen.OutProjIdeal.Value
public import Idealize.ShloMosaic.Lib.Pipeline.ValueKit
public import Idealize.ShloMosaic.Lib.Pipeline.ReadBack
public import proofs.«01_k».proof.Proof.Spec

@[expose] public section

set_option maxRecDepth 16384

noncomputable section

namespace Cert.OutProjIdeal.Block

open Cert.OutProjIdeal Cert.OutProjIdeal.Gen Idealize.ShloMosaic Idealize.ShloMosaic.TcCoe Idealize.ShloMosaic.Tactic Idealize.SL.Sem
open Idealize.ShloMosaic.Pipeline (Dat)

/-- The lane's group of 32 columns, as the kernel computes it. -/
theorem group_apply (j : S256x128.Idx) : k0_pay5 j = BitVec.ofNat 32 ((j 1).val / 32) := by
  have h : ∀ q : Fin 128, k0_pay5 (ValueIdx.ix2 (0 : Fin 256) q) = BitVec.ofNat 32 (q.val / 32) := by decide +kernel
  exact h (j 1)

/-- The linear layer of one block, as the kernel keeps it. -/
theorem proj_apply (x : Vec Ideal S384x15360 .bf16) (W : Vec Ideal S256x15360 .bf16) (j : S384x256.Idx) : k0_pay3 (F := Ideal) x W j = Spec.lin x W (j 0) (j 1) := by
  show matmul (φ₂ := .bf16) (DotDims.transposedRhs 384 15360 256) none (shapeCast S384x15360 x shapeCasts_S384x15360_S384x15360) W (constant (F := Ideal) S384x256 .f32 0x00000000#32) j = _
  rw [shapeCast_self]
  exact Spec.matmul_eq_lin x W j

/-- What a block of the output holds: the linear layer. -/
theorem out3_eq (c : Dev nD) (i : grid0.Coords) (arg2 : Memref sig .tc .vmem S384x15360 .bf16) (harg2 : arg2.IsWhole) (arg3 : Memref sig .tc .vmem S256x15360 .fp8e4m3) (harg3 : arg3.IsWhole) (arg4 : Memref sig .tc .vmem S256x480 .i8) (harg4 : arg4.IsWhole) (arg5 : Memref sig .tc .vmem S384x256 .bf16) (harg5 : arg5.IsWhole) (arg6 : Memref sig .tc .vmem S256x15360 .bf16) (harg6 : arg6.IsWhole)
    (x0 : Vec Ideal S384x15360 .bf16) (x1 : Vec Ideal S256x15360 .fp8e4m3) (x2 : Vec Ideal S256x480 .i8) (y : S384x256.Idx) :
    out0_A_3 (F := Ideal) c i arg2 harg2 arg3 harg3 arg4 harg4 arg5 harg5 arg6 harg6 x0 x1 x2 y = Spec.lin x0 (Mx.weight (by decide) x1 x2) (y 0) (y 1) := by
  frame_out
  rw [Mx.readCov_whole _ _ (Mx.weight (by decide) x1 x2) (by decide) ?h]
  case h =>
    intro y
    canon_tiles x h
    all_goals
      open_payloads
      refine Mx.chunk_weight _ x1 x2 (k0_pay4 x2) (fun _ => rfl) k0_pay5 group_apply _ _ _ x y ?_ ?_ ?_ ?_
      all_goals first | omega | decide
  exact proj_apply _ _ _

end Cert.OutProjIdeal.Block
-- ==== Proof.ArraysOut.lean ====
module

public import proofs.«01_k».proof.Proof.Gen.OutProjIdeal.Value
public import Idealize.ShloMosaic.Lib.Pipeline.ValueKit
public import Idealize.ShloMosaic.Lib.Pipeline.ReadBack
public import proofs.«01_k».proof.Proof.BlockOut

@[expose] public section

set_option maxRecDepth 16384

noncomputable section

namespace Cert.OutProjIdeal.Arrays

open Cert.OutProjIdeal Cert.OutProjIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The activations the region finds: the launched ones, two batches of rows one under the other. -/
theorem V_main_v0 (c : Dev nD) : V m c main_v0 = shapeCast S1536x15360 (m ((c : Thread nD τ).loc main_arg0)) shapeCasts_S2x768x15360_S1536x15360 := by
  show StableHlo.after hostOps0 _ (Proc.devRef .tc main_v0) = _
  after_results
  rfl

theorem e0 : ∀ t : Fin cfg0.N, win0_0.index t = ![t.val / 32, 0] := (by decide +kernel : ∀ t : Fin grid0.N, _)
theorem e1 : ∀ t : Fin cfg0.N, win0_1.index t = ![t.val % 32, 0] := (by decide +kernel : ∀ t : Fin grid0.N, _)
theorem e2 : ∀ t : Fin cfg0.N, win0_2.index t = ![t.val % 32, 0] := (by decide +kernel : ∀ t : Fin grid0.N, _)
theorem e3 : ∀ t : Fin cfg0.N, win0_3.index t = ![t.val / 32, t.val % 32] := (by decide +kernel : ∀ t : Fin grid0.N, _)

/-! Where a block's index lies in its array. -/

theorem p0_0 (t : Fin cfg0.N) (y : S384x15360.Idx) : ((win0_0.blk t).view.emb y 0).val = t.val / 32 * 384 + (y 0).val := by blk_simp [e0]
theorem p0_1 (t : Fin cfg0.N) (y : S384x15360.Idx) : ((win0_0.blk t).view.emb y 1).val = (y 1).val := by blk_simp [e0]
theorem p1_0 (t : Fin cfg0.N) (y : S256x15360.Idx) : ((win0_1.blk t).view.emb y 0).val = t.val % 32 * 256 + (y 0).val := by blk_simp [e1]
theorem p1_1 (t : Fin cfg0.N) (y : S256x15360.Idx) : ((win0_1.blk t).view.emb y 1).val = (y 1).val := by blk_simp [e1]
theorem p2_0 (t : Fin cfg0.N) (y : S256x480.Idx) : ((win0_2.blk t).view.emb y 0).val = t.val % 32 * 256 + (y 0).val := by blk_simp [e2]
theorem p2_1 (t : Fin cfg0.N) (y : S256x480.Idx) : ((win0_2.blk t).view.emb y 1).val = (y 1).val := by blk_simp [e2]
theorem p3_0 (t : Fin cfg0.N) (y : S384x256.Idx) : ((win0_3.blk t).view.emb y 0).val = t.val / 32 * 384 + (y 0).val := by blk_simp [e3]
theorem p3_1 (t : Fin cfg0.N) (y : S384x256.Idx) : ((win0_3.blk t).view.emb y 1).val = t.val % 32 * 256 + (y 1).val := by blk_simp [e3]

/-- The linear layer of the launched arrays. -/
def lin (c : Dev nD) : Fin 1536 → Fin 8192 → EReal :=
  Spec.lin (shapeCast S1536x15360 (m ((c : Thread nD τ).loc main_arg0)) shapeCasts_S2x768x15360_S1536x15360) (Mx.weight (by decide) (m ((c : Thread nD τ).loc main_arg1)) (m ((c : Thread nD τ).loc main_arg2)))

/-- The linear layer of point `t`'s blocks is 384 rows and 256 columns of the launched arrays'. -/
theorem lin_block (c : Dev nD) (t : Fin cfg0.N) (r : Fin 384) (r' : Fin 1536) (q : Fin 256) (q' : Fin 8192) (hr : r'.val = t.val / 32 * 384 + r.val) (hq : q'.val = t.val % 32 * 256 + q.val) :
    Spec.lin (M := 384) (N := 256) (K := 15360) (iblk m c 0 t) (Mx.weight (by decide) (iblk m c 1 t) (iblk m c 2 t)) r q = lin m c r' q' := by
  refine Spec.lin_congr _ _ _ _ _ _ _ _ (fun k => ?_) (fun k => Spec.weight_congr _ _ _ _ _ _ _ _ ?_ fun b => ?_)
  · blk_simp [iblk]
    rw [V_main_v0]
    exact congrArg _ (Spec.ext2 ((p0_0 t _).trans hr.symm) (p0_1 t _))
  · blk_simp [iblk]
    rw [V_main_arg1]
    exact congrArg _ (Spec.ext2 ((p1_0 t _).trans hq.symm) (p1_1 t _))
  · blk_simp [iblk]
    rw [V_main_arg2]
    exact congrArg _ (Spec.ext2 ((p2_0 t _).trans hq.symm) (p2_1 t _))

/-- The output after the run. -/
theorem final3 (c : Dev nD) : (dats m 0 c).arrAt 3 cfg0.N = fun j => lin m c (j 0) (j 1) := by
  refine (dats m 0 c).arrAt_eq_of_covers 3 _ (by decide +kernel) fun t hf y => ?_
  blk_simp
  rw [after0_3]
  unfold outsAt0
  rw [Block.out3_eq]
  exact lin_block m c t _ _ _ _ (p3_0 t y) (p3_1 t y)

end Cert.OutProjIdeal.Arrays
-- ==== Proof.ReadOut.lean ====
module

public import proofs.«01_k».proof.Proof.Gen.RefOutIdeal.Value
public import Idealize.ShloMosaic.Lib.Pipeline.ValueKit
public import Idealize.ShloMosaic.Lib.Pipeline.ReadBack
public import proofs.«01_k».proof.Proof.Spec
public import proofs.«01_k».proof.Proof.Scale

@[expose] public section

set_option maxRecDepth 16384

noncomputable section

namespace Cert.RefOutIdeal.Read

open Cert.RefOutIdeal Cert.RefOutIdeal.Gen Idealize.ShloMosaic Idealize.ShloMosaic.TcCoe Idealize.ShloMosaic.Tactic Idealize.SL.Sem
open Idealize.ShloMosaic.Pipeline (Dat)

/-- The linear layer in the kernel's spelling: the rows of both batches one under the other. -/
def lin (a0 : Vec Ideal S2x768x15360 .bf16) (a1 : Vec Ideal S8192x15360 .fp8e4m3) (a2 : Vec Ideal S8192x480 .i8) : Fin 1536 → Fin 8192 → EReal :=
  Spec.lin (shapeCast ⟨2, ![1536, 15360]⟩ a0 (by decide)) (Mx.weight (by decide) a1 a2)

theorem rows_at (a0 : Vec Ideal S2x768x15360 .bf16) (i : Shape.Idx ⟨2, ![1536, 15360]⟩) (h : S2x768x15360.ShapeCasts ⟨2, ![1536, 15360]⟩) :
    shapeCast ⟨2, ![1536, 15360]⟩ a0 h i = a0 (ValueIdx.ix3 ⟨(i 0).val / 768, by have : (i 0).val < 1536 := (i 0).isLt; omega⟩ ⟨(i 0).val % 768, Nat.mod_lt _ (by decide)⟩ (i 1)) := by
  pointwise
  rfl

/-- The reference's array is the kernel's linear layer, for normal scales. -/
theorem G3_apply (a0 : Vec Ideal S2x768x15360 .bf16) (a1 : Vec Ideal S8192x15360 .fp8e4m3) (a2 : Vec Ideal S8192x480 .i8) (hn : ∀ i, Scale.Normal (a2 i)) (j : S1536x8192.Idx) :
    Value.G3 a0 a1 a2 j = lin a0 a1 a2 (j 0) (j 1) := by
  unfold Value.G3 k0_pay1
  pointwise
  unfold lin Spec.lin
  refine Finset.sum_congr rfl fun k _ => congrArg₂ (fun u v : EReal => u * v) ?_ (congrArg (fun v : EReal => _ * v) ?_)
  · rw [rows_at]
    rfl
  · exact (Scale.byteFactor_eq _ (hn _)).symm

end Cert.RefOutIdeal.Read
-- ==== Proof.EqualOut.lean ====
module

public import proofs.«01_k».proof.Defs
public import proofs.«01_k».proof.Proof.Gen.Pre_scales_normal_out
public import proofs.«01_k».proof.Proof.ArraysOut
public import proofs.«01_k».proof.Proof.ReadOut

@[expose] public section

set_option maxRecDepth 16384

noncomputable section

namespace Cert.EqualOut

open Idealize.ShloMosaic Idealize.ShloMosaic.TcCoe Idealize.SL.Sem

attribute [local instance] Cert.OutProjIdeal.Gen.facts Cert.RefOutIdeal.Gen.facts Cert.Pre_scales_normal_out.Gen.facts

/-- The precondition, read at one scale: its byte is the exponent field of a normal number. -/
theorem normal (m : (ℓ : Loc Cert.OutProjIdeal.nD Cert.OutProjIdeal.τ Cert.OutProjIdeal.sig) → Buf (Elt Ideal) ℓ) (pre : Cert.Pre_OutProjIdeal_scales_normal_out m) (c : Dev Cert.OutProjIdeal.nD) (i : Cert.OutProjIdeal.S8192x480.Idx) :
    Scale.Normal (m ((c.tc : Thread Cert.OutProjIdeal.nD Cert.OutProjIdeal.τ).loc Cert.OutProjIdeal.main_arg2) i) :=
  Scale.normal_of_flag _ (congrFun (pre c) i)

/-- Kernel and reference end with the same arrays. -/
theorem equal : Cert.algebraic_OutProjIdeal_RefOutIdeal_pre_scales_normal_out := by
  intro m g m' g' pre hag
  refine ⟨fun c => (Cert.OutProjIdeal.Gen.dats m 0 c).arrAt 3 Cert.OutProjIdeal.cfg0.N, Cert.OutProjIdeal.Value.run_blocks m g, ?_⟩
  refine (θ_run _ _ _).mono (fun r h c => ?_) (Cert.RefOutIdeal.Value.run m' g')
  obtain ⟨e3, hk⟩ := h c
  obtain ⟨h0, h1, h2⟩ := hag c
  have hn := normal m pre c
  rw [← h2] at hn
  refine ⟨e3.trans (Eq.trans (funext fun j => ?_) (Cert.OutProjIdeal.Arrays.final3 m c).symm), hk⟩
  rw [Cert.RefOutIdeal.Read.G3_apply _ _ _ hn, h0, h1, h2]
  rfl

end Cert.EqualOut

end
-- ==== Proof.Scan.lean ====
/-
  A RUNNING SUM BY DOUBLING. A kernel sums a column of 64 numbers cumulatively in six steps: each adds to every row the
  row `n` above it (zero where there is none), with `n` = 1, 2, 4, 8, 16, 32. After the step of `n` a row holds the sum
  of the last `2 n` numbers down to it.
-/
module

public import Idealize.ShloMosaic.Lib.Pipeline.ValueKit
public import proofs.«01_k».proof.Proof.Spec

@[expose] public section

set_option maxRecDepth 16384

noncomputable section

namespace Cert.Scan

open Idealize.ShloMosaic
open scoped BigOperators

/-- The sum of the last `n` of the numbers `f 0, …, f i`. -/
def last (f : ℕ → EReal) (n i : ℕ) : EReal := ∑ k ∈ Finset.range n, if k ≤ i then f (i - k) else 0

theorem last_one (f : ℕ → EReal) (i : ℕ) : last f 1 i = f i := by
  simp [last]

/-- The last `n`, and the last `n` of those before them, are the last `n + n`. -/
theorem last_add (f : ℕ → EReal) (n i : ℕ) : last f n i + (if i < n then 0 else last f n (i - n)) = last f (n + n) i := by
  unfold last
  rw [Finset.sum_range_add]
  congr 1
  by_cases h : i < n
  · rw [if_pos h]
    exact (Finset.sum_eq_zero fun k _ => if_neg (by omega)).symm
  · rw [if_neg h]
    refine Finset.sum_congr rfl fun k _ => ?_
    by_cases hk : k ≤ i - n
    · rw [if_pos hk, if_pos (by omega), show i - n - k = i - (n + k) by omega]
    · rw [if_neg hk, if_neg (by omega)]

/-- The last 64 of at most 64 numbers are all of them, in either order. -/
theorem last_all (f : ℕ → EReal) (i : ℕ) (hi : i < 64) : last f 64 i = ∑ k : Fin 64, if k.val ≤ i then f k.val else 0 := by
  rw [Fin.sum_univ_eq_sum_range (fun k => if k ≤ i then f k else 0) 64]
  unfold last
  have hr : (Finset.range 64).filter (· ≤ i) = Finset.range (i + 1) := by
    ext k; simp only [Finset.mem_filter, Finset.mem_range]; omega
  rw [← Finset.sum_filter, ← Finset.sum_filter, hr]
  exact Finset.sum_range_reflect f (i + 1)

/-- One step: every row and the row `n` above it. -/
def step {h w : ℕ} (n r : ℕ) (A : FVec Ideal ⟨2, ![h, w]⟩ .f32) (hs : Shape.Slices ⟨2, ![h, w]⟩ ![0, 0] ⟨2, ![r, w]⟩)
    (hc : Shape.Concatenates [⟨2, ![n, w]⟩, ⟨2, ![r, w]⟩] ⟨2, ![h, w]⟩ 0) : FVec Ideal ⟨2, ![h, w]⟩ .f32 :=
  addf A (concatenate ⟨2, ![h, w]⟩ 0 [⟨⟨2, ![n, w]⟩, broadcast ⟨2, ![n, w]⟩ (Scalar.ofBits (F := Ideal) .f32 0x00000000#32)⟩, ⟨⟨2, ![r, w]⟩, extractStridedSlice ⟨2, ![r, w]⟩ ![0, 0] A hs⟩] hc)

/-- A row of ⟨2, ![h, w]⟩ that holds the sum of the last `m` numbers holds, after the step, the sum of the last `m + m`. -/
theorem step_last {h w : ℕ} (n r : ℕ) (A : FVec Ideal ⟨2, ![h, w]⟩ .f32) (hs) (hc) (hr : n + r = h) (f : Fin w → ℕ → EReal)
    (hA : ∀ j, A j = last (f (j 1)) n (j 0).val) (j : Shape.Idx ⟨2, ![h, w]⟩) : step n r A hs hc j = last (f (j 1)) (n + n) (j 0).val := by
  rw [← last_add, ← hA]
  refine congrArg (fun v : EReal => A j + v) ?_
  have hj : (j 0).val < h := ValueIdx.idx2_lt0 j
  by_cases hlt : (j 0).val < n
  · rw [if_pos hlt]
    refine (concatenate_pair_apply_left (t := ⟨2, ![h, w]⟩) (s₁ := ⟨2, ![n, w]⟩) (s₂ := ⟨2, ![r, w]⟩) 0 _ _ hc j rfl (ValueIdx.ix2 ⟨(j 0).val, hlt⟩ (j 1)) fun b => ?_).trans Ideal.ofBits_zero_f32
    match b with
    | ⟨0, _⟩ => rfl
    | ⟨1, _⟩ => rfl
  · rw [if_neg hlt]
    refine (concatenate_pair_apply_right (t := ⟨2, ![h, w]⟩) (s₁ := ⟨2, ![n, w]⟩) (s₂ := ⟨2, ![r, w]⟩) 0 _ _ hc j rfl rfl (ValueIdx.ix2 ⟨(j 0).val - n, by omega⟩ (j 1)) (fun b hb => ?_) ?_).trans ?_
    · match b with
      | ⟨0, _⟩ => exact absurd rfl hb
      | ⟨1, _⟩ => rfl
    · show (j 0).val - n + n = (j 0).val
      omega
    · refine (extractStridedSlice_apply _ _ _ _ (ValueIdx.ix2 ⟨(j 0).val - n, by omega⟩ (j 1)) fun a => ?_).trans (hA _)
      match a with
      | ⟨0, _⟩ => exact (Nat.zero_add _).symm
      | ⟨1, _⟩ => exact (Nat.zero_add _).symm

/-- The six steps on 64 rows. -/
def scan (A : FVec Ideal ⟨2, ![64, 128]⟩ .f32) : FVec Ideal ⟨2, ![64, 128]⟩ .f32 :=
  step 32 32 (step 16 48 (step 8 56 (step 4 60 (step 2 62 (step 1 63 A (by decide) (by decide)) (by decide) (by decide)) (by decide) (by decide)) (by decide) (by decide)) (by decide) (by decide)) (by decide) (by decide)

theorem scan_apply (A : FVec Ideal ⟨2, ![64, 128]⟩ .f32) (f : Fin 128 → ℕ → EReal) (hA : ∀ j, A j = f (j 1) (j 0).val) (j : Shape.Idx ⟨2, ![64, 128]⟩) :
    scan A j = ∑ k : Fin 64, if k.val ≤ (j 0).val then f (j 1) k.val else 0 := by
  rw [← last_all _ _ (ValueIdx.idx2_lt0 j)]
  refine step_last 32 32 _ _ _ rfl f (step_last 16 48 _ _ _ rfl f (step_last 8 56 _ _ _ rfl f (step_last 4 60 _ _ _ rfl f (step_last 2 62 _ _ _ rfl f (step_last 1 63 _ _ _ rfl f fun j => ?_))))) j
  rw [last_one]
  exact hA j

/-- Row `r`, lane `q` of what is stored: in the first 64 lanes the sum of `g` from the start of the row's chunk of 64 down
    to the row, in the others `b`. -/
def out (g b : FVec Ideal ⟨2, ![1536, 128]⟩ .f32) (y : Shape.Idx ⟨2, ![1536, 128]⟩) : EReal :=
  if (y 1).val < 64 then ∑ k : Fin 64, if k.val ≤ (y 0).val % 64 then g (ValueIdx.ix2 ⟨(y 0).val / 64 * 64 + k.val, by have := ValueIdx.idx2_lt0 y; omega⟩ (y 1)) else 0 else b y

theorem lane_lt : ∀ q : Fin 128, (BitVec.ofNat 32 q.val).slt 64#32 = decide (q.val < 64) := by decide +kernel

/-- The 64 rows from row `o` on that a kernel stores are those of `out`. -/
theorem piece (g b : FVec Ideal ⟨2, ![1536, 128]⟩ .f32) (o : ℕ) (lane : IVec ⟨2, ![64, 128]⟩ 32) (hlane : ∀ j, lane j = BitVec.ofNat 32 (j 1).val)
    (x : Shape.Idx ⟨2, ![64, 128]⟩) (y : Shape.Idx ⟨2, ![1536, 128]⟩) (ho : o % 64 = 0) (hy0 : (y 0).val = o + (x 0).val) (hy1 : (y 1).val = (x 1).val)
    {h₁ h₂ : Shape.Slices (⟨2, ![1536, 128]⟩ : Shape) ![o, 0] ⟨2, ![64, 128]⟩} :
    select (cmpi .slt lane (broadcast ⟨2, ![64, 128]⟩ 64#32)) (scan (extractStridedSlice ⟨2, ![64, 128]⟩ ![o, 0] g h₁)) (extractStridedSlice ⟨2, ![64, 128]⟩ ![o, 0] b h₂) x
      = out g b y := by
  have hx0 : (x 0).val < 64 := ValueIdx.idx2_lt0 x
  have hx1 : (x 1).val < 128 := ValueIdx.idx2_lt1 x
  have hy : (y 0).val < 1536 := ValueIdx.idx2_lt0 y
  show Scalar.select (BitVec.ofBool ((lane x).slt 64#32)) _ _ = _
  rw [hlane, lane_lt (x 1)]
  unfold out
  rw [hy1]
  by_cases h : (x 1).val < 64
  · rw [if_pos h, decide_eq_true h]
    refine (scan_apply _ (fun q k => if hk : o + k < 1536 then g (ValueIdx.ix2 ⟨o + k, hk⟩ q) else 0) (fun j => ?_) x).trans ?_
    · have hj0 : (j 0).val < 64 := ValueIdx.idx2_lt0 j
      rw [dif_pos (by omega)]
      refine extractStridedSlice_apply _ _ _ _ _ fun a => ?_
      match a with
      | ⟨0, _⟩ => rfl
      | ⟨1, _⟩ => exact (Nat.zero_add _).symm
    · refine Finset.sum_congr rfl fun k _ => ?_
      rw [show (y 0).val % 64 = (x 0).val by omega]
      by_cases hk : k.val ≤ (x 0).val
      · rw [if_pos hk, if_pos hk, dif_pos (by omega)]
        exact congrArg g (Spec.ext2 (by show o + k.val = (y 0).val / 64 * 64 + k.val; omega) hy1.symm)
      · rw [if_neg hk, if_neg hk]
  · rw [if_neg h, decide_eq_false h]
    refine extractStridedSlice_apply _ b h₂ x y fun a => ?_
    match a with
    | ⟨0, _⟩ => exact hy0
    | ⟨1, _⟩ => exact hy1.trans (Nat.zero_add _).symm

end Cert.Scan
-- ==== Proof.BlockGates.lean ====
module

public import proofs.«01_k».proof.Proof.Gen.GatesIdeal.Value
public import Idealize.ShloMosaic.Lib.Pipeline.ValueKit
public import Idealize.ShloMosaic.Lib.Pipeline.ReadBack
public import proofs.«01_k».proof.Proof.Scan

@[expose] public section

set_option maxRecDepth 161536

noncomputable section

namespace Cert.GatesIdeal.Block

open Cert.GatesIdeal Cert.GatesIdeal.Gen Idealize.ShloMosaic Idealize.ShloMosaic.TcCoe Idealize.ShloMosaic.Tactic Idealize.SL.Sem
open Idealize.ShloMosaic.Pipeline (Dat)

/-- The lane's group of 32 columns, as the kernel computes it. -/
theorem group_apply (j : S128x128.Idx) : k0_pay3 j = BitVec.ofNat 32 ((j 1).val / 32) := by
  have h : ∀ q : Fin 128, k0_pay3 (ValueIdx.ix2 (0 : Fin 128) q) = BitVec.ofNat 32 (q.val / 32) := by decide +kernel
  exact h (j 1)

/-- The factors, as the kernel computes them. -/
theorem fac_apply (x2 : Vec Ideal S128x256 .i8) (j : S128x256.Idx) : k0_pay2 (F := Ideal) x2 j = Mx.byteFactor (x2 j) := by
  unfold k0_pay2
  rw [shapeCast_self]
  rfl

/-- `Mx.chunk_weight`, of codes that the kernel casts to their own shape first. -/
theorem chunk_weight {n m w : ℕ} (hw : m = 32 * w) (X : FVec Ideal ⟨2, ![n, m]⟩ .fp8e4m3) (scales : IVec ⟨2, ![n, w]⟩ 8)
    (fac : FVec Ideal ⟨2, ![n, w]⟩ .f32) (hfac : ∀ j, fac j = Mx.byteFactor (scales j)) (idx : IVec ⟨2, ![n, 128]⟩ 32)
    (hidx : ∀ j, idx j = BitVec.ofNat 32 ((j 1).val / 32)) (off c : ℕ) (k : BitVec 32)
    (x : Shape.Idx ⟨2, ![n, 128]⟩) (y : Shape.Idx ⟨2, ![n, m]⟩) (hk : k.toNat + 4 ≤ 128) (hc : c = 32 * (off + k.toNat))
    (hy0 : (y 0).val = (x 0).val) (hy1 : (y 1).val = c + (x 1).val)
    {h₁ : FTy.bits .fp8e4m3 < FTy.bits .bf16} {h₂ : FTy.bits .bf16 < FTy.bits .f32}
    {h₃ : Shape.Slices (⟨2, ![n, w]⟩ : Shape) ![0, off] ⟨2, ![n, 128]⟩} {h₄ h₅ h₆} {h₀ : Shape.ShapeCasts ⟨2, ![n, 128]⟩ ⟨2, ![n, 128]⟩} {inb} :
    shapeCast ⟨2, ![n, 128]⟩ (mulf (extf .bf16 (shapeCast ⟨2, ![n, 128]⟩ (View.ld (Val := Elt Ideal) (e' := .fp8e4m3) X (Rect.unit (s := ⟨2, ![n, m]⟩) ![0, c] ![n, 128] inb)) h₀) h₁)
      (truncf .bf16 (dynamicGather 1 (extractStridedSlice ⟨2, ![n, 128]⟩ ![0, off] fac h₃)
      (shapeCast ⟨2, ![n, 128]⟩ (shapeCast ⟨3, ![n, 128, 1]⟩ (select (cmpi .slt (addi idx (broadcast ⟨2, ![n, 128]⟩ k)) (broadcast ⟨2, ![n, 128]⟩ 0#32))
        (addi (addi idx (broadcast ⟨2, ![n, 128]⟩ k)) (broadcast ⟨2, ![n, 128]⟩ 128#32)) (addi idx (broadcast ⟨2, ![n, 128]⟩ k))) h₄) h₅)) h₂)) h₆ x
      = Mx.weight hw X scales y := by
  rw [shapeCast_self (s := ⟨2, ![n, 128]⟩) (View.ld (Val := Elt Ideal) (e' := .fp8e4m3) X (Rect.unit (s := ⟨2, ![n, m]⟩) ![0, c] ![n, 128] inb)) h₀]
  exact Mx.chunk_weight hw X scales fac hfac idx hidx off c k x y hk hc hy0 hy1

/-- Both linear layers of the block side by side, as the kernel keeps them. -/
theorem raw_apply (x : Vec Ideal S1536x8192 .bf16) (W : Vec Ideal S128x8192 .bf16) (j : S1536x128.Idx) : k0_pay119 (F := Ideal) x W j = Spec.lin x W (j 0) (j 1) := by
  rw [show k0_pay119 (F := Ideal) x W j = matmul (φ₁ := .bf16) (φ₂ := .bf16) (DotDims.transposedRhs 1536 8192 128) none (shapeCast S1536x8192 x shapeCasts_S1536x8192_S1536x8192) W (constant (F := Ideal) S1536x128 .f32 0x00000000#32) j from rfl, shapeCast_self]
  exact Spec.matmul_eq_lin x W j

/-- A lane's number. -/
theorem lane_apply (j : S64x128.Idx) : iota .tc S64x128 32 [1] iota_S64x128_d1_w32 j = BitVec.ofNat 32 (j 1).val := by
  have h : ∀ q : Fin 128, iota .tc S64x128 32 [1] iota_S64x128_d1_w32 (ValueIdx.ix2 (0 : Fin 64) q) = BitVec.ofNat 32 q.val := by decide +kernel
  exact h (j 1)

set_option maxHeartbeats 2000000 in
/-- What the output holds: the chunked running sum of the decays, and the other gate beside it. -/
theorem out5_eq (c : Dev nD) (i : grid0.Coords) (arg1 : Memref sig .tc .vmem S1536x8192 .bf16) (harg1 : arg1.IsWhole) (arg2 : Memref sig .tc .vmem S128x8192 .fp8e4m3) (harg2 : arg2.IsWhole) (arg3 : Memref sig .tc .vmem S128x256 .i8) (harg3 : arg3.IsWhole) (arg4 : Memref sig .tc .vmem S1x128 .f32) (harg4 : arg4.IsWhole) (arg5 : Memref sig .tc .vmem S1x128 .f32) (harg5 : arg5.IsWhole) (arg6 : Memref sig .tc .vmem S1536x128 .f32) (harg6 : arg6.IsWhole) (arg7 : Memref sig .tc .vmem S128x8192 .bf16) (harg7 : arg7.IsWhole)
    (x0 : Vec Ideal S1536x8192 .bf16) (x1 : Vec Ideal S128x8192 .fp8e4m3) (x2 : Vec Ideal S128x256 .i8) (x3 x4 : Vec Ideal S1x128 .f32) (y : S1536x128.Idx) :
    out0_A_5 (F := Ideal) c i arg1 harg1 arg2 harg2 arg3 harg3 arg4 harg4 arg5 harg5 arg6 harg6 arg7 harg7 x0 x1 x2 x3 x4 y
      = Scan.out (k0_pay121 (k0_pay120 x0 (Mx.weight (by decide) x1 x2) x4) x3) (k0_pay122 (k0_pay119 x0 (Mx.weight (by decide) x1 x2))) y := by
  frame_out
  rw [Mx.readCov_whole _ _ (Mx.weight (by decide) x1 x2) (by decide) ?h]
  case h =>
    intro y
    canon_tiles x h
    all_goals
      open_payloads
      refine chunk_weight _ x1 x2 (k0_pay2 x2) (fac_apply x2) k0_pay3 group_apply _ _ _ x y ?_ ?_ ?_ ?_
      all_goals first | omega | decide
  canon_tiles x h
  all_goals
    refine Scan.piece (k0_pay121 (k0_pay120 x0 (Mx.weight (by decide) x1 x2) x4) x3) (k0_pay122 (k0_pay119 x0 (Mx.weight (by decide) x1 x2))) _ (iota .tc S64x128 32 [1] iota_S64x128_d1_w32) lane_apply x y ?_ ?_ ?_
    all_goals first | omega | decide

end Cert.GatesIdeal.Block
-- ==== Proof.GateSpec.lean ====
/-
  THE MATHEMATICS OF THE GATES: two linear layers of 40 heads each, padded with heads of zeros to 64; of the first the
  decay of every token and head and its running sum over chunks of 64 tokens, of the second the logistic.
-/
module

public import proofs.«01_k».proof.Proof.Spec

@[expose] public section

set_option maxRecDepth 16384

noncomputable section

namespace Cert.Gate

open Idealize.ShloMosaic
open scoped BigOperators

/-- The linear layer at row `r`, head `q`; zero past the 40 heads. -/
def heads (X : FVec Ideal ⟨2, ![1536, 8192]⟩ .bf16) (w : FVec Ideal ⟨2, ![40, 8192]⟩ .fp8e4m3) (s : IVec ⟨2, ![40, 256]⟩ 8) (r : Fin 1536) (q : ℕ) : EReal :=
  if h : q < 40 then Spec.lin X (Mx.weight (by decide) w s) r ⟨q, h⟩ else 0

/-- A number per head, zero past the 40 heads. -/
def head (x : FVec Ideal ⟨1, ![40]⟩ .f32) (q : ℕ) : EReal := if h : q < 40 then x (ValueIdx.ix1 ⟨q, h⟩) else 0

/-- The logarithm of a token's decay: minus e to the head's rate, times the softplus of the layer plus the head's bias. -/
def decay (a al dt : EReal) : EReal :=
  (0 - Ideal.exp al) * (max (a + dt) 0 + Ideal.log1p (Ideal.exp (0 - max (a + dt) (-(a + dt)))))

/-- Row `r`, lane `q`: in the first 64 lanes the decays of the row's chunk of 64 summed down to the row, in the others the
    logistic of the second layer. -/
def gate (X : FVec Ideal ⟨2, ![1536, 8192]⟩ .bf16) (w : FVec Ideal ⟨2, ![40, 8192]⟩ .fp8e4m3) (s : IVec ⟨2, ![40, 256]⟩ 8) (w' : FVec Ideal ⟨2, ![40, 8192]⟩ .fp8e4m3) (s' : IVec ⟨2, ![40, 256]⟩ 8)
    (al dt : FVec Ideal ⟨1, ![40]⟩ .f32) (r : Fin 1536) (q : Fin 128) : EReal :=
  if q.val < 64 then ∑ k : Fin 64, if k.val ≤ r.val % 64 then decay (heads X w s ⟨r.val / 64 * 64 + k.val, by omega⟩ q.val) (head al q.val) (head dt q.val) else 0
  else Ideal.logistic (heads X w' s' r (q.val - 64))

variable {α : Type} {n : ℕ} (w w' : Shape.Idx ⟨2, ![40, n]⟩ → α) (z : Shape.Idx ⟨2, ![24, n]⟩ → α)
  (hc : Shape.Concatenates [⟨2, ![40, n]⟩, ⟨2, ![24, n]⟩, ⟨2, ![40, n]⟩, ⟨2, ![24, n]⟩] ⟨2, ![128, n]⟩ 0)

/-- Two arrays of 40 rows, 24 rows of padding under each. -/
abbrev stack : Shape.Idx ⟨2, ![128, n]⟩ → α :=
  concatenate ⟨2, ![128, n]⟩ 0 [⟨⟨2, ![40, n]⟩, w⟩, ⟨⟨2, ![24, n]⟩, z⟩, ⟨⟨2, ![40, n]⟩, w'⟩, ⟨⟨2, ![24, n]⟩, z⟩] hc

theorem stack_first (q : Fin 128) (k : Fin n) (h : q.val < 40) : stack w w' z hc (ValueIdx.ix2 q k) = w (ValueIdx.ix2 ⟨q.val, h⟩ k) := by
  refine concatenate_apply_piece (t := ⟨2, ![128, n]⟩) 0 _ _ _ 0 (by simp) _ w rfl rfl 0 rfl _ (fun b hb => ?_) (Nat.zero_add _)
  match b with
  | ⟨0, _⟩ => exact absurd rfl hb
  | ⟨1, _⟩ => rfl

theorem stack_pad (q : Fin 128) (k : Fin n) (h : 40 ≤ q.val) (h' : q.val < 64) : stack w w' z hc (ValueIdx.ix2 q k) = z (ValueIdx.ix2 ⟨q.val - 40, by omega⟩ k) := by
  refine concatenate_apply_piece (t := ⟨2, ![128, n]⟩) 0 _ _ _ 1 (by simp) _ z rfl rfl 40 rfl _ (fun b hb => ?_) (by show 40 + (q.val - 40) = q.val; omega)
  match b with
  | ⟨0, _⟩ => exact absurd rfl hb
  | ⟨1, _⟩ => rfl

theorem stack_second (q : Fin 128) (k : Fin n) (h : 64 ≤ q.val) (h' : q.val - 64 < 40) : stack w w' z hc (ValueIdx.ix2 q k) = w' (ValueIdx.ix2 ⟨q.val - 64, h'⟩ k) := by
  refine concatenate_apply_piece (t := ⟨2, ![128, n]⟩) 0 _ _ _ 2 (by simp) _ w' rfl rfl 64 rfl _ (fun b hb => ?_) (by show 64 + (q.val - 64) = q.val; omega)
  match b with
  | ⟨0, _⟩ => exact absurd rfl hb
  | ⟨1, _⟩ => rfl

theorem stack_pad' (q : Fin 128) (k : Fin n) (h : 104 ≤ q.val) : stack w w' z hc (ValueIdx.ix2 q k) = z (ValueIdx.ix2 ⟨q.val - 104, by omega⟩ k) := by
  refine concatenate_apply_piece (t := ⟨2, ![128, n]⟩) 0 _ _ _ 3 (by simp) _ z rfl rfl 104 rfl _ (fun b hb => ?_) (by show 104 + (q.val - 104) = q.val; omega)
  match b with
  | ⟨0, _⟩ => exact absurd rfl hb
  | ⟨1, _⟩ => rfl

/-- A row of zero codes gives a linear layer of zeros. -/
theorem lin_zero {M K w N : ℕ} (hw : K = 32 * w) (X : FVec Ideal ⟨2, ![M, K]⟩ .bf16) (codes : FVec Ideal ⟨2, ![N, K]⟩ .fp8e4m3) (scales : IVec ⟨2, ![N, w]⟩ 8) (r : Fin M) (q : Fin N)
    (h : ∀ k, codes (ValueIdx.ix2 q k) = (0 : EReal)) : Spec.lin X (Mx.weight hw codes scales) r q = 0 := by
  refine Finset.sum_eq_zero fun k _ => ?_
  refine (congrArg (fun v : EReal => _ * v) (congrArg (fun v : EReal => v * _) (h k))).trans ?_
  rw [zero_mul, mul_zero]

/-- The linear layer of both gates' padded codes: the first gate's heads, then the second's. -/
theorem lin_stack (X : FVec Ideal ⟨2, ![1536, 8192]⟩ .bf16) (w w' : FVec Ideal ⟨2, ![40, 8192]⟩ .fp8e4m3) (s s' : IVec ⟨2, ![40, 256]⟩ 8) (z : FVec Ideal ⟨2, ![24, 8192]⟩ .fp8e4m3) (zs : IVec ⟨2, ![24, 256]⟩ 8)
    (hz : ∀ i, z i = (0 : EReal)) (hc) (hc') (r : Fin 1536) (q : Fin 128) :
    Spec.lin X (Mx.weight (by decide) (stack w w' z hc) (stack s s' zs hc')) r q = if q.val < 64 then heads X w s r q.val else heads X w' s' r (q.val - 64) := by
  unfold heads
  by_cases h : q.val < 64
  · rw [if_pos h]
    by_cases h' : q.val < 40
    · rw [dif_pos h']
      exact Spec.lin_congr _ _ _ _ _ _ _ _ (fun _ => rfl) fun k => Spec.weight_congr _ _ _ _ _ _ _ _ (stack_first _ _ _ _ _ _ h') fun b => stack_first _ _ _ _ _ _ h'
    · rw [dif_neg h']
      exact lin_zero _ _ _ _ _ _ fun k => (stack_pad _ _ _ _ _ _ (by omega) h).trans (hz _)
  · rw [if_neg h]
    by_cases h' : q.val - 64 < 40
    · rw [dif_pos h']
      exact Spec.lin_congr _ _ _ _ _ _ _ _ (fun _ => rfl) fun k => Spec.weight_congr _ _ _ _ _ _ _ _ (stack_second _ _ _ _ _ _ (by omega) h') fun b => stack_second _ _ _ _ _ _ (by omega) h'
    · rw [dif_neg h']
      exact lin_zero _ _ _ _ _ _ fun k => (stack_pad' _ _ _ _ _ _ (by omega)).trans (hz _)

end Cert.Gate
-- ==== Proof.ArraysGates.lean ====
module

public import proofs.«01_k».proof.Proof.Gen.GatesIdeal.Value
public import Idealize.ShloMosaic.Lib.Pipeline.ValueKit
public import Idealize.ShloMosaic.Lib.Pipeline.ReadBack
public import proofs.«01_k».proof.Proof.BlockGates
public import proofs.«01_k».proof.Proof.GateSpec

@[expose] public section

set_option maxRecDepth 16384

noncomputable section

namespace Cert.GatesIdeal.Arrays

open Cert.GatesIdeal Cert.GatesIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The codes the region works on: those of one gate and of the other, each with 24 rows of zeros under it. -/
def codes (w w' : Vec Ideal S40x8192 .fp8e4m3) : Vec Ideal S128x8192 .fp8e4m3 :=
  concatenate S128x8192 0 [⟨S40x8192, w⟩, ⟨S24x8192, bitcastToFloat (F := Ideal) .fp8e4m3 (broadcastInDim S24x8192 ![] bcast_S_S24x8192 (constantI S_ 8 0#8))⟩, ⟨S40x8192, w'⟩, ⟨S24x8192, bitcastToFloat (F := Ideal) .fp8e4m3 (broadcastInDim S24x8192 ![] bcast_S_S24x8192 (constantI S_ 8 0#8))⟩] concatenates_S40x8192_S24x8192_S40x8192_S24x8192_S128x8192_d0

/-- Their scales, padded alike. -/
def scales (s s' : Vec Ideal S40x256 .i8) : Vec Ideal S128x256 .i8 :=
  concatenate S128x256 0 [⟨S40x256, s⟩, ⟨S24x256, broadcastInDim S24x256 ![] bcast_S_S24x256 (constantI S_ 8 0#8)⟩, ⟨S40x256, s'⟩, ⟨S24x256, broadcastInDim S24x256 ![] bcast_S_S24x256 (constantI S_ 8 0#8)⟩] concatenates_S40x256_S24x256_S40x256_S24x256_S128x256_d0

/-- One number per head, with zeros up to 128. -/
def padded (x : Vec Ideal S40 .f32) : Vec Ideal S1x128 .f32 :=
  shapeCast S1x128 (pad S128 ![0] ![88] ![0] x (sitofp (F := Ideal) .f32 (constantI S_ 32 0#32)) pads_S40_S128_0880 h_S_) shapeCasts_S128_S1x128

/-- The activations the region finds: the launched ones, two batches of rows one under the other. -/
theorem V_main_v0 (c : Dev nD) : V m c main_v0 = shapeCast S1536x8192 (m ((c : Thread nD τ).loc main_arg0)) shapeCasts_S2x768x8192_S1536x8192 := by
  unfold V
  simp only [hostOps0, hostOps0_1, hostOps0_2, hostOps0_3, hostOps0_4, List.flatten_cons, List.flatten_nil, List.append_nil, List.cons_append, List.nil_append]
  after_results
  rfl

theorem V_main_v3 (c : Dev nD) : V m c main_v3 = codes (m ((c : Thread nD τ).loc main_arg1)) (m ((c : Thread nD τ).loc main_arg3)) := by
  unfold V
  simp only [hostOps0, hostOps0_1, hostOps0_2, hostOps0_3, hostOps0_4, List.flatten_cons, List.flatten_nil, List.append_nil, List.cons_append, List.nil_append]
  after_results
  rfl

theorem V_main_v6 (c : Dev nD) : V m c main_v6 = scales (m ((c : Thread nD τ).loc main_arg2)) (m ((c : Thread nD τ).loc main_arg4)) := by
  unfold V
  simp only [hostOps0, hostOps0_1, hostOps0_2, hostOps0_3, hostOps0_4, List.flatten_cons, List.flatten_nil, List.append_nil, List.cons_append, List.nil_append]
  after_results
  rfl

theorem V_main_v8 (c : Dev nD) : V m c main_v8 = padded (m ((c : Thread nD τ).loc main_arg5)) := by
  unfold V
  simp only [hostOps0, hostOps0_1, hostOps0_2, hostOps0_3, hostOps0_4, List.flatten_cons, List.flatten_nil, List.append_nil, List.cons_append, List.nil_append]
  after_results
  rfl

theorem V_main_v10 (c : Dev nD) : V m c main_v10 = padded (m ((c : Thread nD τ).loc main_arg6)) := by
  unfold V
  simp only [hostOps0, hostOps0_1, hostOps0_2, hostOps0_3, hostOps0_4, List.flatten_cons, List.flatten_nil, List.append_nil, List.cons_append, List.nil_append]
  after_results
  rfl

/-- The byte of a zero code means zero. -/
theorem zero_code : Ideal.ofBits .fp8e4m3 0#8 = 0 := by simp [Ideal.ofBits, Ideal.e4m3fn]

/-- Both linear layers side by side: the first gate's heads padded to 64, then the second's. -/
theorem lin_codes (X : Vec Ideal S1536x8192 .bf16) (w w' : Vec Ideal S40x8192 .fp8e4m3) (s s' : Vec Ideal S40x256 .i8) (r : Fin 1536) (q : Fin 128) :
    Spec.lin (M := 1536) (N := 128) (K := 8192) X (Mx.weight (by decide) (codes w w') (scales s s')) r q = if q.val < 64 then Gate.heads X w s r q.val else Gate.heads X w' s' r (q.val - 64) := by
  have hz : ∀ i, bitcastToFloat (F := Ideal) .fp8e4m3 (broadcastInDim S24x8192 ![] bcast_S_S24x8192 (constantI S_ 8 0#8)) i = (0 : EReal) := by
    intro i
    pointwise
    exact zero_code
  unfold codes scales
  generalize bitcastToFloat (F := Ideal) .fp8e4m3 (broadcastInDim S24x8192 ![] bcast_S_S24x8192 (constantI S_ 8 0#8)) = z at hz ⊢
  generalize broadcastInDim S24x256 ![] bcast_S_S24x256 (constantI S_ 8 0#8) = zs
  exact Gate.lin_stack X w w' s s' z zs hz _ _ r q

theorem padded_apply (x : Vec Ideal S40 .f32) (q : Fin 128) : padded x (ValueIdx.ix2 (0 : Fin 1) q) = Gate.head x q.val := by
  unfold padded Gate.head
  pointwise
  by_cases h : q.val < 40
  · refine (dif_pos h).trans (Eq.trans ?_ (dif_pos h).symm)
    rfl
  · refine (dif_neg h).trans (Eq.trans ?_ (dif_neg h).symm)
    show (((0#32 : BitVec 32).toInt : ℝ) : EReal) = 0
    simp

theorem decay_apply (X : Vec Ideal S1536x8192 .bf16) (W : Vec Ideal S128x8192 .bf16) (al dt : Vec Ideal S1x128 .f32) (r : Fin 1536) (q : Fin 128) :
    k0_pay121 (F := Ideal) (k0_pay120 X W dt) al (ValueIdx.ix2 r q) = Gate.decay (Spec.lin X W r q) (al (ValueIdx.ix2 0 q)) (dt (ValueIdx.ix2 0 q)) := by
  have h : k0_pay119 (F := Ideal) X W (ValueIdx.ix2 r q) = Spec.lin X W r q := Block.raw_apply X W (ValueIdx.ix2 r q)
  unfold k0_pay121 k0_pay120
  generalize k0_pay119 X W = R at h ⊢
  pointwise
  rw [h]
  rfl

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)

/-! Every block is its whole array. -/

theorem b0 (t : Fin cfg0.N) (y : S1536x8192.Idx) : (win0_0.blk t).view.emb y = y := Spec.ext2 (by blk_simp [e0]) (by blk_simp [e0])
theorem b1 (t : Fin cfg0.N) (y : S128x8192.Idx) : (win0_1.blk t).view.emb y = y := Spec.ext2 (by blk_simp [e1]) (by blk_simp [e1])
theorem b2 (t : Fin cfg0.N) (y : S128x256.Idx) : (win0_2.blk t).view.emb y = y := Spec.ext2 (by blk_simp [e2]) (by blk_simp [e2])
theorem b3 (t : Fin cfg0.N) (y : S1x128.Idx) : (win0_3.blk t).view.emb y = y := Spec.ext2 (by blk_simp [e3]) (by blk_simp [e3])
theorem b4 (t : Fin cfg0.N) (y : S1x128.Idx) : (win0_4.blk t).view.emb y = y := Spec.ext2 (by blk_simp [e4]) (by blk_simp [e4])
theorem b5 (t : Fin cfg0.N) (y : S1536x128.Idx) : (win0_5.blk t).view.emb y = y := Spec.ext2 (by blk_simp [e5]) (by blk_simp [e5])

theorem i0 (c : Dev nD) (t : Fin cfg0.N) : iblk m c 0 t = shapeCast S1536x8192 (m ((c : Thread nD τ).loc main_arg0)) shapeCasts_S2x768x8192_S1536x8192 := by
  funext y
  blk_simp [iblk]
  rw [V_main_v0]
  exact congrArg _ (b0 t y)

theorem i1 (c : Dev nD) (t : Fin cfg0.N) : iblk m c 1 t = codes (m ((c : Thread nD τ).loc main_arg1)) (m ((c : Thread nD τ).loc main_arg3)) := by
  funext y
  blk_simp [iblk]
  rw [V_main_v3]
  exact congrArg _ (b1 t y)

theorem i2 (c : Dev nD) (t : Fin cfg0.N) : iblk m c 2 t = scales (m ((c : Thread nD τ).loc main_arg2)) (m ((c : Thread nD τ).loc main_arg4)) := by
  funext y
  blk_simp [iblk]
  rw [V_main_v6]
  exact congrArg _ (b2 t y)

theorem i3 (c : Dev nD) (t : Fin cfg0.N) : iblk m c 3 t = padded (m ((c : Thread nD τ).loc main_arg5)) := by
  funext y
  blk_simp [iblk]
  rw [V_main_v8]
  exact congrArg _ (b3 t y)

theorem i4 (c : Dev nD) (t : Fin cfg0.N) : iblk m c 4 t = padded (m ((c : Thread nD τ).loc main_arg6)) := by
  funext y
  blk_simp [iblk]
  rw [V_main_v10]
  exact congrArg _ (b4 t y)

/-- What the kernel stores of padded arrays are the gates. -/
theorem out_eq (X : Vec Ideal S1536x8192 .bf16) (w w' : Vec Ideal S40x8192 .fp8e4m3) (s s' : Vec Ideal S40x256 .i8) (al dt : Vec Ideal S40 .f32) (y : S1536x128.Idx) :
    Scan.out (k0_pay121 (k0_pay120 X (Mx.weight (by decide) (codes w w') (scales s s')) (padded dt)) (padded al)) (k0_pay122 (k0_pay119 X (Mx.weight (by decide) (codes w w') (scales s s')))) y
      = Gate.gate X w s w' s' al dt (y 0) (y 1) := by
  unfold Scan.out Gate.gate
  by_cases h : (y 1).val < 64
  · rw [if_pos h, if_pos h]
    refine Finset.sum_congr rfl fun k _ => ?_
    by_cases hk : k.val ≤ (y 0).val % 64
    · rw [if_pos hk, if_pos hk]
      refine (decay_apply _ _ _ _ _ _).trans ?_
      rw [padded_apply al (y 1), padded_apply dt (y 1)]
      exact congrArg (fun v : EReal => Gate.decay v _ _) ((lin_codes X w w' s s' _ (y 1)).trans (if_pos h))
    · rw [if_neg hk, if_neg hk]
  · rw [if_neg h, if_neg h]
    exact congrArg Ideal.logistic ((Block.raw_apply _ _ _).trans ((lin_codes X w w' s s' (y 0) (y 1)).trans (if_neg h)))

/-- The output after the run. -/
theorem final5 (c : Dev nD) : (dats m 0 c).arrAt 5 cfg0.N = fun j =>
    Gate.gate (shapeCast S1536x8192 (m ((c : Thread nD τ).loc main_arg0)) shapeCasts_S2x768x8192_S1536x8192) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1) := by
  refine (dats m 0 c).arrAt_eq_of_covers 5 _ (by decide +kernel) fun t hf y => ?_
  blk_simp
  rw [after0_5]
  unfold outsAt0
  rw [Block.out5_eq, i0, i1, i2, i3, i4]
  refine (out_eq _ _ _ _ _ _ _ y).trans ?_
  rw [b5]

end Cert.GatesIdeal.Arrays
-- ==== Proof.ReadGates.lean ====
module

public import proofs.«01_k».proof.Proof.Gen.RefGatesIdeal.Value
public import Idealize.ShloMosaic.Lib.Pipeline.ValueKit
public import Idealize.ShloMosaic.Lib.Pipeline.ReadBack
public import proofs.«01_k».proof.Proof.GateSpec
public import proofs.«01_k».proof.Proof.Scale

@[expose] public section

set_option maxRecDepth 16384

noncomputable section

namespace Cert.RefGatesIdeal.Read

open Cert.RefGatesIdeal Cert.RefGatesIdeal.Gen Idealize.ShloMosaic Idealize.ShloMosaic.TcCoe Idealize.ShloMosaic.Tactic Idealize.SL.Sem
open Idealize.ShloMosaic.Pipeline (Dat)

/-- The rows of both batches one under the other. -/
def rows (x : Vec Ideal S2x768x8192 .bf16) : FVec Ideal ⟨2, ![1536, 8192]⟩ .bf16 := shapeCast ⟨2, ![1536, 8192]⟩ x (by decide)

theorem rows_at (x : Vec Ideal S2x768x8192 .bf16) (b : Fin 2) (t : Fin 768) (r : Fin 1536) (k : Fin 8192) (hr : r.val = 768 * b.val + t.val) :
    rows x (ValueIdx.ix2 r k) = x (ValueIdx.ix3 b t k) := by
  unfold rows
  pointwise
  refine congrArg x (Spec.ext3 ?_ ?_ rfl)
  · show r.val / 768 = b.val
    omega
  · show r.val % 768 = t.val
    omega

/-- The reference's padded linear layer at a token and head, for normal scales. -/
theorem heads_apply (x : Vec Ideal S2x768x8192 .bf16) (w : Vec Ideal S40x8192 .fp8e4m3) (s : Vec Ideal S40x256 .i8) (hn : ∀ i, Scale.Normal (s i)) (j : S2x768x64.Idx) (r : Fin 1536) (hr : r.val = 768 * (j 0).val + (j 1).val) :
    k0_pay2 w s x j = Gate.heads (rows x) w s r (j 2).val := by
  unfold k0_pay2
  pointwise
  unfold Gate.heads
  by_cases h : (j 2).val < 40
  · refine (dif_pos h).trans (Eq.trans ?_ (dif_pos h).symm)
    unfold Spec.lin
    refine Finset.sum_congr rfl fun k _ => congrArg₂ (fun u v : EReal => u * v) ?_ (congrArg (fun v : EReal => _ * v) ?_)
    · exact (rows_at x (j 0) (j 1) r k hr).symm
    · exact (Scale.byteFactor_eq _ (hn _)).symm
  · refine (dif_neg h).trans (Eq.trans ?_ (dif_neg h).symm)
    rfl

theorem pay3_eq (x : Vec Ideal S2x768x8192 .bf16) (w : Vec Ideal S40x8192 .fp8e4m3) (s : Vec Ideal S40x256 .i8) : k0_pay3 (F := Ideal) w s x = k0_pay2 w s x := rfl

theorem sge_eq : ∀ a b : Fin 64, IntOp.cmpi .sge (BitVec.ofNat 32 a.val) (BitVec.ofNat 32 b.val) = BitVec.ofBool (decide (b.val ≤ a.val)) := by decide +kernel

/-- The reference's mask of a running sum, at one pair of positions in a chunk. -/
theorem mask_apply (a : ℕ) (b : Fin 64) (ha : a < 64) (u v : EReal) :
    Scalar.select (IntOp.cmpi .sge (BitVec.ofNat 32 a) (BitVec.ofNat 32 b.val)) u v = if b.val ≤ a then u else v := by
  rw [sge_eq ⟨a, ha⟩ b]
  by_cases h : b.val ≤ a
  · rw [if_pos h, decide_eq_true (show b.val ≤ (⟨a, ha⟩ : Fin 64).val from h)]
    rfl
  · rw [if_neg h, decide_eq_false (show ¬ b.val ≤ (⟨a, ha⟩ : Fin 64).val from h)]
    rfl

/-- The reference's decay is `Gate.decay`: no number differs from itself. -/
theorem decay_eq (a al dt : EReal) :
    (0 - Ideal.exp al) * (if a + dt ≠ a + dt then a + dt else max (a + dt) 0 + Ideal.log1p (Ideal.exp (0 - FloatOps.absf (F := Ideal) (φ := .f32) (a + dt)))) = Gate.decay a al dt := by
  rw [if_neg (fun h => h rfl)]
  rfl

/-- The reference's array holds the gates, for normal scales. -/
theorem G7_apply (a0 : Vec Ideal S2x768x8192 .bf16) (a1 : Vec Ideal S40x8192 .fp8e4m3) (a2 : Vec Ideal S40x256 .i8) (a3 : Vec Ideal S40x8192 .fp8e4m3) (a4 : Vec Ideal S40x256 .i8) (a5 a6 : Vec Ideal S40 .f32)
    (hn : ∀ i, Scale.Normal (a2 i)) (hn' : ∀ i, Scale.Normal (a4 i)) (j : S1536x128.Idx) :
    Value.G7 a0 a1 a2 a3 a4 a5 a6 j = Gate.gate (rows a0) a1 a2 a3 a4 a5 a6 (j 0) (j 1) := by
  unfold Value.G7
  rw [pay3_eq]
  have h1 := heads_apply a0 a1 a2 hn
  have h2 := heads_apply a0 a3 a4 hn'
  generalize k0_pay2 a1 a2 a0 = A at h1 ⊢
  generalize k0_pay2 a3 a4 a0 = B at h2 ⊢
  unfold k0_pay1
  pointwise
  have hj : (j 0).val < 1536 := ValueIdx.idx2_lt0 j
  unfold Gate.gate
  by_cases h : (j 1).val < 64
  · refine (dif_pos h).trans (Eq.trans ?_ (if_pos h).symm)
    refine Finset.sum_congr rfl fun k _ => ?_
    rw [mask_apply _ k (Nat.mod_lt _ (by decide))]
    refine if_congr Iff.rfl ?_ rfl
    refine (decay_eq _ _ _).trans ?_
    exact congrArg (fun v : EReal => Gate.decay v (Gate.head a5 (j 1).val) (Gate.head a6 (j 1).val)) (h1 (ValueIdx.ix3 ⟨(j 0).val / 64 / 12, by omega⟩ ⟨(j 0).val / 64 % 12 * 64 + k.val, by omega⟩ ⟨(j 1).val, h⟩) ⟨(j 0).val / 64 * 64 + k.val, by omega⟩
      (by show (j 0).val / 64 * 64 + k.val = 768 * ((j 0).val / 64 / 12) + ((j 0).val / 64 % 12 * 64 + k.val); omega))
  · refine (dif_neg h).trans (Eq.trans ?_ (if_neg h).symm)
    exact congrArg Ideal.logistic (h2 _ (j 0) (by show (j 0).val = 768 * ((j 0).val / 768) + (j 0).val % 768; omega))

end Cert.RefGatesIdeal.Read
-- ==== Proof.EqualGates.lean ====
module

public import proofs.«01_k».proof.Defs
public import proofs.«01_k».proof.Proof.Gen.Pre_scales_normal_gates
public import proofs.«01_k».proof.Proof.ArraysGates
public import proofs.«01_k».proof.Proof.ReadGates

@[expose] public section

set_option maxRecDepth 16384

noncomputable section

namespace Cert.EqualGates

open Idealize.ShloMosaic Idealize.ShloMosaic.TcCoe Idealize.SL.Sem

attribute [local instance] Cert.GatesIdeal.Gen.facts Cert.RefGatesIdeal.Gen.facts Cert.Pre_scales_normal_gates.Gen.facts

/-- A conjunction of two flags is set only if both are. -/
theorem both : ∀ p q : BitVec 1, IntOp.andi p q = 1#1 → p = 1#1 ∧ q = 1#1 := by decide

/-- What the precondition computes of two bytes says that both are normal. -/
theorem normal_of_flags (s s' : BitVec 8)
    (h : IntOp.andi (IntOp.andi (IntOp.andi (IntOp.cmpi .ne s 0#8) (IntOp.cmpi .ne s 255#8)) (IntOp.cmpi .ne s' 0#8)) (IntOp.cmpi .ne s' 255#8) = 1#1) : Scale.Normal s ∧ Scale.Normal s' := by
  obtain ⟨h3, h4⟩ := both _ _ h
  obtain ⟨h2, h3⟩ := both _ _ h3
  exact ⟨Scale.normal_of_flag s h2, Scale.normal_of_flag s' (by rw [h3, h4]; decide)⟩

/-- The precondition, read at one scale of each gate: its byte is the exponent field of a normal number. -/
theorem normal (m : (ℓ : Loc Cert.GatesIdeal.nD Cert.GatesIdeal.τ Cert.GatesIdeal.sig) → Buf (Elt Ideal) ℓ) (pre : Cert.Pre_GatesIdeal_scales_normal_gates m) (c : Dev Cert.GatesIdeal.nD) (i : Cert.GatesIdeal.S40x256.Idx) :
    Scale.Normal (m ((c.tc : Thread Cert.GatesIdeal.nD Cert.GatesIdeal.τ).loc Cert.GatesIdeal.main_arg2) i) ∧ Scale.Normal (m ((c.tc : Thread Cert.GatesIdeal.nD Cert.GatesIdeal.τ).loc Cert.GatesIdeal.main_arg4) i) :=
  normal_of_flags _ _ (congrFun (pre c) i)

/-- Kernel and reference end with the same arrays. -/
theorem equal : Cert.algebraic_GatesIdeal_RefGatesIdeal_pre_scales_normal_gates := by
  intro m g m' g' pre hag
  refine ⟨fun c => (Cert.GatesIdeal.Gen.dats m 0 c).arrAt 5 Cert.GatesIdeal.cfg0.N, Cert.GatesIdeal.Value.run_blocks m g, ?_⟩
  refine (θ_run _ _ _).mono (fun r h c => ?_) (Cert.RefGatesIdeal.Value.run m' g')
  obtain ⟨e7, hk⟩ := h c
  obtain ⟨h0, h1, h2, h3, h4, h5, h6⟩ := hag c
  have hn := fun i => (normal m pre c i).1
  have hn' := fun i => (normal m pre c i).2
  rw [← h2] at hn
  rw [← h4] at hn'
  refine ⟨e7.trans (Eq.trans (funext fun j => ?_) (Cert.GatesIdeal.Arrays.final5 m c).symm), hk⟩
  rw [Cert.RefGatesIdeal.Read.G7_apply _ _ _ _ _ _ _ hn hn', h0, h1, h2, h3, h4, h5, h6]
  rfl

end Cert.EqualGates

end
-- ==== Proof.lean ====
module

public import proofs.«01_k».proof.Defs
public import proofs.«01_k».proof.Proof.Gen.ProjQ
public import proofs.«01_k».proof.Proof.Gen.ProjQ.Skeleton
public import proofs.«01_k».proof.Proof.Gen.ProjQ.Launch
public import proofs.«01_k».proof.Proof.Gen.ProjQ.Points
public import proofs.«01_k».proof.Proof.Gen.ProjQ.Frame
public import proofs.«01_k».proof.Proof.Gen.ProjQIdeal
public import proofs.«01_k».proof.Proof.Gen.ProjQIdeal.Skeleton
public import proofs.«01_k».proof.Proof.Gen.ProjQIdeal.Launch
public import proofs.«01_k».proof.Proof.Gen.ProjQIdeal.Points
public import proofs.«01_k».proof.Proof.Gen.ProjQIdeal.Frame
public import proofs.«01_k».proof.Proof.Gen.RefQIdeal
public import proofs.«01_k».proof.Proof.Gen.RefQIdeal.Skeleton
public import proofs.«01_k».proof.Proof.Gen.RefQIdeal.Launch
public import proofs.«01_k».proof.Proof.Gen.RefQIdeal.Points
public import proofs.«01_k».proof.Proof.Gen.RefQIdeal.Frame
public import proofs.«01_k».proof.Proof.Gen.ProjV
public import proofs.«01_k».proof.Proof.Gen.ProjV.Skeleton
public import proofs.«01_k».proof.Proof.Gen.ProjV.Launch
public import proofs.«01_k».proof.Proof.Gen.ProjV.Points
public import proofs.«01_k».proof.Proof.Gen.ProjV.Frame
public import proofs.«01_k».proof.Proof.Gen.ProjVIdeal
public import proofs.«01_k».proof.Proof.Gen.ProjVIdeal.Skeleton
public import proofs.«01_k».proof.Proof.Gen.ProjVIdeal.Launch
public import proofs.«01_k».proof.Proof.Gen.ProjVIdeal.Points
public import proofs.«01_k».proof.Proof.Gen.ProjVIdeal.Frame
public import proofs.«01_k».proof.Proof.Gen.RefVIdeal
public import proofs.«01_k».proof.Proof.Gen.RefVIdeal.Skeleton
public import proofs.«01_k».proof.Proof.Gen.RefVIdeal.Launch
public import proofs.«01_k».proof.Proof.Gen.RefVIdeal.Points
public import proofs.«01_k».proof.Proof.Gen.RefVIdeal.Frame
public import proofs.«01_k».proof.Proof.Gen.ProjG
public import proofs.«01_k».proof.Proof.Gen.ProjG.Skeleton
public import proofs.«01_k».proof.Proof.Gen.ProjG.Launch
public import proofs.«01_k».proof.Proof.Gen.ProjG.Points
public import proofs.«01_k».proof.Proof.Gen.ProjG.Frame
public import proofs.«01_k».proof.Proof.Gen.ProjGIdeal
public import proofs.«01_k».proof.Proof.Gen.ProjGIdeal.Skeleton
public import proofs.«01_k».proof.Proof.Gen.ProjGIdeal.Launch
public import proofs.«01_k».proof.Proof.Gen.ProjGIdeal.Points
public import proofs.«01_k».proof.Proof.Gen.ProjGIdeal.Frame
public import proofs.«01_k».proof.Proof.Gen.RefGIdeal
public import proofs.«01_k».proof.Proof.Gen.RefGIdeal.Skeleton
public import proofs.«01_k».proof.Proof.Gen.RefGIdeal.Launch
public import proofs.«01_k».proof.Proof.Gen.RefGIdeal.Points
public import proofs.«01_k».proof.Proof.Gen.RefGIdeal.Frame
public import proofs.«01_k».proof.Proof.Gen.Pre_scales_normal_g
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.RefOutIdeal
public import proofs.«01_k».proof.Proof.Gen.RefOutIdeal.Skeleton
public import proofs.«01_k».proof.Proof.Gen.RefOutIdeal.Launch
public import proofs.«01_k».proof.Proof.Gen.RefOutIdeal.Points
public import proofs.«01_k».proof.Proof.Gen.RefOutIdeal.Frame
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.RefGatesIdeal
public import proofs.«01_k».proof.Proof.Gen.RefGatesIdeal.Skeleton
public import proofs.«01_k».proof.Proof.Gen.RefGatesIdeal.Launch
public import proofs.«01_k».proof.Proof.Gen.RefGatesIdeal.Points
public import proofs.«01_k».proof.Proof.Gen.RefGatesIdeal.Frame
public import proofs.«01_k».proof.Proof.Gen.Pre_scales_normal_gates
public import proofs.«01_k».proof.Proof.Gen.GatesIdeal.Value
public import proofs.«01_k».proof.Proof.Gen.RefGatesIdeal.Value
public import proofs.«01_k».proof.Proof.Gen.Pre_scales_normal_q
public import proofs.«01_k».proof.Proof.Gen.Pre_scales_normal_v
public import proofs.«01_k».proof.Proof.Gen.Pre_scales_normal_out
public import proofs.«01_k».proof.Proof.Gen.ProjQIdeal.Value
public import proofs.«01_k».proof.Proof.Gen.ProjVIdeal.Value
public import proofs.«01_k».proof.Proof.Gen.ProjGIdeal.Value
public import proofs.«01_k».proof.Proof.Gen.RefGIdeal.Value
public import proofs.«01_k».proof.Proof.Gen.OutProjIdeal.Value
public import proofs.«01_k».proof.Proof.Gen.RefQIdeal.Value
public import proofs.«01_k».proof.Proof.Gen.RefVIdeal.Value
public import proofs.«01_k».proof.Proof.Gen.RefOutIdeal.Value
public import proofs.«01_k».proof.Proof.EqualQ
public import proofs.«01_k».proof.Proof.EqualV
public import proofs.«01_k».proof.Proof.EqualG
public import proofs.«01_k».proof.Proof.EqualOut
public import proofs.«01_k».proof.Proof.EqualGates
public import Idealize.ShloMosaic.Adequacy
public import Idealize.ShloMosaic.Init

@[expose] public section

noncomputable section

namespace Cert.Proof

open Idealize.ShloMosaic Idealize.SL.Sem Cert.ProjQ

theorem claim : Cert.Claim := ⟨Cert.ProjQ.Gen.facts, Cert.ProjQIdeal.Gen.facts, Cert.RefQIdeal.Gen.facts, Cert.ProjV.Gen.facts, Cert.ProjVIdeal.Gen.facts, Cert.RefVIdeal.Gen.facts, Cert.ProjG.Gen.facts, Cert.ProjGIdeal.Gen.facts, Cert.RefGIdeal.Gen.facts, Cert.OutProj.Gen.facts, Cert.OutProjIdeal.Gen.facts, Cert.RefOutIdeal.Gen.facts, Cert.Gates.Gen.facts, Cert.GatesIdeal.Gen.facts, Cert.RefGatesIdeal.Gen.facts, Cert.Pre_scales_normal_q.Gen.facts, Cert.Pre_scales_normal_v.Gen.facts, Cert.Pre_scales_normal_g.Gen.facts, Cert.Pre_scales_normal_out.Gen.facts, Cert.Pre_scales_normal_gates.Gen.facts,
  fun m ρ _ => Cert.ProjQ.Gen.frame m ρ,
  fun m ρ _ => Cert.ProjQIdeal.Gen.frame m ρ,
  fun m ρ _ => Cert.ProjQIdeal.Gen.frame m ρ,
  fun m ρ _ => Cert.RefQIdeal.Gen.frame m ρ,
  fun m ρ _ => Cert.RefQIdeal.Gen.frame m ρ,
  fun m ρ _ => Cert.ProjV.Gen.frame m ρ,
  fun m ρ _ => Cert.ProjVIdeal.Gen.frame m ρ,
  fun m ρ _ => Cert.ProjVIdeal.Gen.frame m ρ,
  fun m ρ _ => Cert.RefVIdeal.Gen.frame m ρ,
  fun m ρ _ => Cert.RefVIdeal.Gen.frame m ρ,
  fun m ρ _ => Cert.ProjG.Gen.frame m ρ,
  fun m ρ _ => Cert.ProjGIdeal.Gen.frame m ρ,
  fun m ρ _ => Cert.ProjGIdeal.Gen.frame m ρ,
  fun m ρ _ => Cert.RefGIdeal.Gen.frame m ρ,
  fun m ρ _ => Cert.RefGIdeal.Gen.frame m ρ,
  fun m ρ _ => Cert.OutProj.Gen.frame m ρ,
  fun m ρ _ => Cert.OutProjIdeal.Gen.frame m ρ,
  fun m ρ _ => Cert.OutProjIdeal.Gen.frame m ρ,
  fun m ρ _ => Cert.RefOutIdeal.Gen.frame m ρ,
  fun m ρ _ => Cert.RefOutIdeal.Gen.frame m ρ,
  fun m ρ _ => Cert.Gates.Gen.frame m ρ,
  fun m ρ _ => Cert.GatesIdeal.Gen.frame m ρ,
  fun m ρ _ => Cert.GatesIdeal.Gen.frame m ρ,
  fun m ρ _ => Cert.RefGatesIdeal.Gen.frame m ρ,
  fun m ρ _ => Cert.RefGatesIdeal.Gen.frame m ρ,
  trivial, Cert.EqualQ.equal, trivial, Cert.EqualV.equal, trivial, Cert.EqualG.equal, trivial, Cert.EqualOut.equal, trivial, Cert.EqualGates.equal⟩

end Cert.Proof

end
